-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)) (v7 : (c : Dev Cert.Kernel3Ideal.nD) → Buf (Elt Ideal) ((c.tc : Thread Cert.Kernel3Ideal.nD Cert.Kernel3Ideal.τ).loc Cert.Kernel3Ideal.main_v15_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_v15_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v82) = v5 c
          ∧ r.2.mem ((c.tc : Thread Cert.Reference3Ideal.nD Cert.Reference3Ideal.τ).loc Cert.Reference3Ideal.main_v85) = v6 c
          ∧ r.2.mem ((c.tc : Thread Cert.Reference3Ideal.nD Cert.Reference3Ideal.τ).loc Cert.Reference3Ideal.main_v89) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8 : Shape := ⟨1, ![8]⟩
abbrev S16x512x1024 : Shape := ⟨3, ![16, 512, 1024]⟩
abbrev S16384x128 : Shape := ⟨2, ![16384, 128]⟩
abbrev S16x256x1024 : Shape := ⟨3, ![16, 256, 1024]⟩
abbrev S16x8x1024 : Shape := ⟨3, ![16, 8, 1024]⟩
abbrev S16384x1024 : Shape := ⟨2, ![16384, 1024]⟩
abbrev S1024x1024 : Shape := ⟨2, ![1024, 1024]⟩
abbrev S512x1 : Shape := ⟨2, ![512, 1]⟩
abbrev S4x4x64x128 : Shape := ⟨4, ![4, 4, 64, 128]⟩
abbrev S4x2x128 : Shape := ⟨3, ![4, 2, 128]⟩
abbrev S4x1x4 : Shape := ⟨3, ![4, 1, 4]⟩
abbrev S4x128x128 : Shape := ⟨3, ![4, 128, 128]⟩
abbrev S1x512x512 : Shape := ⟨3, ![1, 512, 512]⟩
abbrev S512x128 : Shape := ⟨2, ![512, 128]⟩
abbrev S128x128 : Shape := ⟨2, ![128, 128]⟩
abbrev S1x256x512 : Shape := ⟨3, ![1, 256, 512]⟩
abbrev S1x256x128 : Shape := ⟨3, ![1, 256, 128]⟩
abbrev S1x8x512 : Shape := ⟨3, ![1, 8, 512]⟩
abbrev S512x1024 : Shape := ⟨2, ![512, 1024]⟩
abbrev S1x4x64x128 : Shape := ⟨4, ![1, 4, 64, 128]⟩
abbrev S1x2x128 : Shape := ⟨3, ![1, 2, 128]⟩
abbrev S1x1x4 : Shape := ⟨3, ![1, 1, 4]⟩
abbrev S1x128x128 : Shape := ⟨3, ![1, 128, 128]⟩
abbrev S1024x512 : Shape := ⟨2, ![1024, 512]⟩
abbrev S2x256x128 : Shape := ⟨3, ![2, 256, 128]⟩
abbrev S8x128 : Shape := ⟨2, ![8, 128]⟩
abbrev S256x256 : Shape := ⟨2, ![256, 256]⟩
abbrev S1x256x1024 : Shape := ⟨3, ![1, 256, 1024]⟩
abbrev S256x1024 : Shape := ⟨2, ![256, 1024]⟩
abbrev S256x128 : Shape := ⟨2, ![256, 128]⟩
abbrev S640x128 : Shape := ⟨2, ![640, 128]⟩
abbrev S1x128x512 : Shape := ⟨3, ![1, 128, 512]⟩
abbrev S128x512 : Shape := ⟨2, ![128, 512]⟩
abbrev S128x640 : Shape := ⟨2, ![128, 640]⟩
abbrev S64x128 : Shape := ⟨2, ![64, 128]⟩
abbrev S128x256 : Shape := ⟨2, ![128, 256]⟩
abbrev S1x64x128 : Shape := ⟨3, ![1, 64, 128]⟩
abbrev S128x1024 : Shape := ⟨2, ![128, 1024]⟩
abbrev S128 : Shape := ⟨1, ![128]⟩
abbrev S1x128 : Shape := ⟨2, ![1, 128]⟩
abbrev S1 : Shape := ⟨1, ![1]⟩
abbrev S1x8x256 : Shape := ⟨3, ![1, 8, 256]⟩
abbrev S8x256 : Shape := ⟨2, ![8, 256]⟩
abbrev S4x256 : Shape := ⟨2, ![4, 256]⟩
abbrev S124x256 : Shape := ⟨2, ![124, 256]⟩
abbrev S1x128x256 : Shape := ⟨3, ![1, 128, 256]⟩
abbrev S1x256 : Shape := ⟨2, ![1, 256]⟩
abbrev S1x1 : Shape := ⟨2, ![1, 1]⟩
abbrev S256x1 : Shape := ⟨2, ![256, 1]⟩
abbrev S256 : Shape := ⟨1, ![256]⟩
abbrev S128x1 : Shape := ⟨2, ![128, 1]⟩
abbrev S1024x256 : Shape := ⟨2, ![1024, 256]⟩
abbrev S1x1x64x128 : Shape := ⟨4, ![1, 1, 64, 128]⟩
abbrev S1x1x128 : Shape := ⟨3, ![1, 1, 128]⟩
abbrev S1x1x1 : Shape := ⟨3, ![1, 1, 1]⟩

abbrev nBuf : Space → Nat
  | .hbm => 18
  | .vmem => 45
  | .smem => 1
  | _ => 0

abbrev bufTy : (tb : Table) → Fin (tcTables nBuf tb) → BufTy
  | .hbm, ⟨0, _⟩ => ⟨S8, .f32⟩
  | .hbm, ⟨1, _⟩ => ⟨S16x512x1024, .bf16⟩
  | .hbm, ⟨2, _⟩ => ⟨S16384x128, .bf16⟩
  | .hbm, ⟨3, _⟩ => ⟨S16x256x1024, .f32⟩
  | .hbm, ⟨4, _⟩ => ⟨S16x256x1024, .bf16⟩
  | .hbm, ⟨5, _⟩ => ⟨S16x256x1024, .bf16⟩
  | .hbm, ⟨6, _⟩ => ⟨S16x512x1024, .bf16⟩
  | .hbm, ⟨7, _⟩ => ⟨S16x512x1024, .bf16⟩
  | .hbm, ⟨8, _⟩ => ⟨S16x8x1024, .f32⟩
  | .hbm, ⟨9, _⟩ => ⟨S16384x1024, .f32⟩
  | .hbm, ⟨10, _⟩ => ⟨S1024x1024, .bf16⟩
  | .hbm, ⟨11, _⟩ => ⟨S512x1, .f32⟩
  | .hbm, ⟨12, _⟩ => ⟨S16384x1024, .f32⟩
  | .hbm, ⟨13, _⟩ => ⟨S4x4x64x128, .f32⟩
  | .hbm, ⟨14, _⟩ => ⟨S4x2x128, .f32⟩
  | .hbm, ⟨15, _⟩ => ⟨S4x1x4, .f32⟩
  | .hbm, ⟨16, _⟩ => ⟨S4x128x128, .f32⟩
  | .hbm, ⟨17, _⟩ => ⟨S4x128x128, .f32⟩
  | .local _ .vmem, ⟨0, _⟩ => ⟨S1x512x512, .bf16⟩
  | .local _ .vmem, ⟨1, _⟩ => ⟨S1x512x512, .bf16⟩
  | .local _ .vmem, ⟨2, _⟩ => ⟨S512x128, .bf16⟩
  | .local _ .vmem, ⟨3, _⟩ => ⟨S512x128, .bf16⟩
  | .local _ .vmem, ⟨4, _⟩ => ⟨S128x128, .bf16⟩
  | .local _ .vmem, ⟨5, _⟩ => ⟨S128x128, .bf16⟩
  | .local _ .vmem, ⟨6, _⟩ => ⟨S1x256x512, .f32⟩
  | .local _ .vmem, ⟨7, _⟩ => ⟨S1x256x512, .f32⟩
  | .local _ .vmem, ⟨8, _⟩ => ⟨S1x256x128, .f32⟩
  | .local _ .vmem, ⟨9, _⟩ => ⟨S1x256x128, .f32⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x8x512, .f32⟩
  | .local _ .vmem, ⟨19, _⟩ => ⟨S1x8x512, .f32⟩
  | .local _ .vmem, ⟨20, _⟩ => ⟨S512x1024, .f32⟩
  | .local _ .vmem, ⟨21, _⟩ => ⟨S512x1024, .f32⟩
  | .local _ .vmem, ⟨22, _⟩ => ⟨S1024x1024, .bf16⟩
  | .local _ .vmem, ⟨23, _⟩ => ⟨S512x1, .f32⟩
  | .local _ .vmem, ⟨24, _⟩ => ⟨S512x1024, .f32⟩
  | .local _ .vmem, ⟨25, _⟩ => ⟨S512x1024, .f32⟩
  | .local _ .vmem, ⟨26, _⟩ => ⟨S1x4x64x128, .f32⟩
  | .local _ .vmem, ⟨27, _⟩ => ⟨S1x4x64x128, .f32⟩
  | .local _ .vmem, ⟨28, _⟩ => ⟨S1x2x128, .f32⟩
  | .local _ .vmem, ⟨29, _⟩ => ⟨S1x2x128, .f32⟩
  | .local _ .vmem, ⟨30, _⟩ => ⟨S1x1x4, .f32⟩
  | .local _ .vmem, ⟨31, _⟩ => ⟨S1x1x4, .f32⟩
  | .local _ .vmem, ⟨32, _⟩ => ⟨S1x128x128, .f32⟩
  | .local _ .vmem, ⟨33, _⟩ => ⟨S1x128x128, .f32⟩
  | .local _ .vmem, ⟨34, _⟩ => ⟨S1x128x128, .f32⟩
  | .local _ .vmem, ⟨35, _⟩ => ⟨S1x128x128, .f32⟩
  | .local _ .vmem, ⟨36, _⟩ => ⟨S1024x512, .bf16⟩
  | .local _ .vmem, ⟨37, _⟩ => ⟨S2x256x128, .f32⟩
  | .local _ .vmem, ⟨38, _⟩ => ⟨S8x128, .f32⟩
  | .local _ .vmem, ⟨39, _⟩ => ⟨S2x256x128, .f32⟩
  | .local _ .vmem, ⟨40, _⟩ => ⟨S256x256, .f32⟩
  | .local _ .vmem, ⟨41, _⟩ => ⟨S256x256, .bf16⟩
  | .local _ .vmem, ⟨42, _⟩ => ⟨S1x256x1024, .f32⟩
  | .local _ .vmem, ⟨43, _⟩ => ⟨S1x256x1024, .f32⟩
  | .local _ .vmem, ⟨44, _⟩ => ⟨S256x1024, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v2265 : BitVec 1 := Scalar.cmpi .eq arg1 c7_i32
  let v2266 : BitVec 32 := Scalar.extui v2265
  let c0_i32_1070 : BitVec 32 := 0#32
  let v2267 : BitVec 1 := Scalar.cmpi .ne v2266 c0_i32_1070
  v2267

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c8_i32_0 : BitVec 32 := 8#32
  let v5 : BitVec 32 := Scalar.divsi v4 c8_i32_0
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c8_i32_0 c0_i32_3
  let v12 : BitVec 32 := Scalar.extui v11
  let c0_i32_4 : BitVec 32 := 0#32
  let v13 : BitVec 1 := Scalar.cmpi .slt c8_i32_0 c0_i32_4
  let v14 : BitVec 32 := Scalar.extui v13
  let v15 : BitVec 32 := Scalar.subi v12 v14
  let v16 : BitVec 1 := Scalar.cmpi .ne v10 v15
  let v17 : BitVec 32 := Scalar.remsi v4 c8_i32_0
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c8_i32_7 : BitVec 32 := 8#32
  let v22 : BitVec 32 := Scalar.muli arg0 c8_i32_7
  let v23 : BitVec 32 := Scalar.addi v22 arg1
  let c4_i32_8 : BitVec 32 := 4#32
  let v24 : BitVec 32 := Scalar.muli v23 c4_i32_8
  let c1_i32_9 : BitVec 32 := 1#32
  let v25 : BitVec 32 := Scalar.subi v24 c1_i32_9
  let c0_i32_10 : BitVec 32 := 0#32
  let v26 : BitVec 32 := Scalar.maxsi v25 c0_i32_10
  let c8_i32_11 : BitVec 32 := 8#32
  let c0_i32_12 : BitVec 32 := 0#32
  let v27 : BitVec 1 := Scalar.cmpi .eq c8_i32_11 c0_i32_12
  let c1_i32_13 : BitVec 32 := 1#32
  let v28 : BitVec 32 := Scalar.select v27 c1_i32_13 c8_i32_11
  let v29 : BitVec 32 := Scalar.remsi v26 v28
  let c0_i32_14 : BitVec 32 := 0#32
  let v30 : BitVec 1 := Scalar.cmpi .ne v29 c0_i32_14
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let v34 : BitVec 1 := Scalar.andi v33 v30
  let v35 : BitVec 32 := Scalar.addi v29 v28
  let v36 : BitVec 32 := Scalar.select v34 v35 v29
  let c0_i32_17 : BitVec 32 := 0#32
  let c0_i32_18 : BitVec 32 := 0#32
  ![v21.toNat, c0_i32_17.toNat, v36.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x2x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x4 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== KernelIdeal.lean ====
variable {F : FTy → Type} [FloatOps F] [Named F]
def κ : String → Option EReal := fun
  | "ln_2" => some ((Real.log 2 : ℝ) : EReal)
  | "log2_e" => some (((Real.log 2)⁻¹ : ℝ) : EReal)
  | _ => none
-- ==== ReferenceIdeal.lean ====
abbrev S8 : Shape := ⟨1, ![8]⟩
abbrev S16x512x1024 : Shape := ⟨3, ![16, 512, 1024]⟩
abbrev S16384x128 : Shape := ⟨2, ![16384, 128]⟩
abbrev S16x256x1024 : Shape := ⟨3, ![16, 256, 1024]⟩
abbrev S16x8x1024 : Shape := ⟨3, ![16, 8, 1024]⟩
abbrev S16384x1024 : Shape := ⟨2, ![16384, 1024]⟩
abbrev S1024x1024 : Shape := ⟨2, ![1024, 1024]⟩
abbrev S512x1 : Shape := ⟨2, ![512, 1]⟩
abbrev S4x4x256x1024 : Shape := ⟨4, ![4, 4, 256, 1024]⟩
abbrev S4x256x4x1024 : Shape := ⟨4, ![4, 256, 4, 1024]⟩
abbrev S4x256x4096 : Shape := ⟨3, ![4, 256, 4096]⟩
abbrev S4x4x64x4096 : Shape := ⟨4, ![4, 4, 64, 4096]⟩
abbrev S4x4x512x1024 : Shape := ⟨4, ![4, 4, 512, 1024]⟩
abbrev S4x512x4x1024 : Shape := ⟨4, ![4, 512, 4, 1024]⟩
abbrev S4x512x4096 : Shape := ⟨3, ![4, 512, 4096]⟩
abbrev S4x4x128x4096 : Shape := ⟨4, ![4, 4, 128, 4096]⟩
abbrev S4x4x8x1024 : Shape := ⟨4, ![4, 4, 8, 1024]⟩
abbrev S4x8x4x1024 : Shape := ⟨4, ![4, 8, 4, 1024]⟩
abbrev S4x8x4096 : Shape := ⟨3, ![4, 8, 4096]⟩
abbrev S4x4x4096 : Shape := ⟨3, ![4, 4, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x1x4096 : Shape := ⟨4, ![4, 4, 1, 4096]⟩
abbrev S_ : Shape := ⟨0, ![]⟩
abbrev S4x4x4096x4096 : Shape := ⟨4, ![4, 4, 4096, 4096]⟩
abbrev S4x4x1 : Shape := ⟨3, ![4, 4, 1]⟩
abbrev S4x4 : Shape := ⟨2, ![4, 4]⟩
abbrev S4x4x64x128 : Shape := ⟨4, ![4, 4, 64, 128]⟩
abbrev S4x4x64 : Shape := ⟨3, ![4, 4, 64]⟩
abbrev S4x256x128 : Shape := ⟨3, ![4, 256, 128]⟩
abbrev S4x2x128 : Shape := ⟨3, ![4, 2, 128]⟩
abbrev S4x1x4 : Shape := ⟨3, ![4, 1, 4]⟩
abbrev S4x128x128 : Shape := ⟨3, ![4, 128, 128]⟩

abbrev nBuf : Space → Nat
  | .hbm => 67
  | .vmem => 0
  | .smem => 0
  | _ => 0

abbrev bufTy : (tb : Table) → Fin (tcTables nBuf tb) → BufTy
  | .hbm, ⟨0, _⟩ => ⟨S8, .f32⟩
  | .hbm, ⟨1, _⟩ => ⟨S16x512x1024, .bf16⟩
  | .hbm, ⟨2, _⟩ => ⟨S16384x128, .bf16⟩
  | .hbm, ⟨3, _⟩ => ⟨S16x256x1024, .f32⟩
  | .hbm, ⟨4, _⟩ => ⟨S16x256x1024, .bf16⟩
  | .hbm, ⟨5, _⟩ => ⟨S16x256x1024, .bf16⟩
  | .hbm, ⟨6, _⟩ => ⟨S16x512x1024, .bf16⟩
  | .hbm, ⟨7, _⟩ => ⟨S16x512x1024, .bf16⟩
  | .hbm, ⟨8, _⟩ => ⟨S16x8x1024, .f32⟩
  | .hbm, ⟨9, _⟩ => ⟨S16384x1024, .f32⟩
  | .hbm, ⟨10, _⟩ => ⟨S1024x1024, .bf16⟩
  | .hbm, ⟨11, _⟩ => ⟨S512x1, .f32⟩
  | .hbm, ⟨12, _⟩ => ⟨S16x256x1024, .f32⟩
  | .hbm, ⟨13, _⟩ => ⟨S4x4x256x1024, .f32⟩
  | .hbm, ⟨14, _⟩ => ⟨S4x256x4x1024, .f32⟩
  | .hbm, ⟨15, _⟩ => ⟨S4x256x4096, .f32⟩
  | .hbm, ⟨16, _⟩ => ⟨S4x4x64x4096, .f32⟩
  | .hbm, ⟨17, _⟩ => ⟨S16x512x1024, .f32⟩
  | .hbm, ⟨18, _⟩ => ⟨S4x4x512x1024, .f32⟩
  | .hbm, ⟨19, _⟩ => ⟨S4x512x4x1024, .f32⟩
  | .hbm, ⟨20, _⟩ => ⟨S4x512x4096, .f32⟩
  | .hbm, ⟨21, _⟩ => ⟨S4x4x128x4096, .f32⟩
  | .hbm, ⟨22, _⟩ => ⟨S4x4x8x1024, .f32⟩
  | .hbm, ⟨23, _⟩ => ⟨S4x8x4x1024, .f32⟩
  | .hbm, ⟨24, _⟩ => ⟨S4x8x4096, .f32⟩
  | .hbm, ⟨25, _⟩ => ⟨S4x4x4096, .f32⟩
  | .hbm, ⟨26, _⟩ => ⟨S4x4x4096, .f32⟩
  | .hbm, ⟨27, _⟩ => ⟨S4096, .i32⟩
  | .hbm, ⟨28, _⟩ => ⟨S1x4096, .i32⟩
  | .hbm, ⟨29, _⟩ => ⟨S4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S4x4x1x4096, .f32⟩
  | .hbm, ⟨35, _⟩ => ⟨S_, .f32⟩
  | .hbm, ⟨36, _⟩ => ⟨S_, .f32⟩
  | .hbm, ⟨37, _⟩ => ⟨S4x4x4096x4096, .i1⟩
  | .hbm, ⟨38, _⟩ => ⟨S4x4x4096x4096, .f32⟩
  | .hbm, ⟨39, _⟩ => ⟨S4x4x4096x4096, .f32⟩
  | .hbm, ⟨40, _⟩ => ⟨S4x4x4096x4096, .f32⟩
  | .hbm, ⟨41, _⟩ => ⟨S_, .f32⟩
  | .hbm, ⟨42, _⟩ => ⟨S4x4x4096, .f32⟩
  | .hbm, ⟨43, _⟩ => ⟨S4x4x1, .f32⟩
  | .hbm, ⟨44, _⟩ => ⟨S4x4x4096, .f32⟩
  | .hbm, ⟨45, _⟩ => ⟨S4x4x4096, .f32⟩
  | .hbm, ⟨46, _⟩ => ⟨S4x4x4096, .f32⟩
  | .hbm, ⟨47, _⟩ => ⟨S_, .f32⟩
  | .hbm, ⟨48, _⟩ => ⟨S4x4, .f32⟩
  | .hbm, ⟨49, _⟩ => ⟨S4x4x1, .f32⟩
  | .hbm, ⟨50, _⟩ => ⟨S4x4x1, .f32⟩
  | .hbm, ⟨51, _⟩ => ⟨S4x4x4096, .f32⟩
  | .hbm, ⟨52, _⟩ => ⟨S4x4x4096, .f32⟩
  | .hbm, ⟨53, _⟩ => ⟨S4x4x4096, .f32⟩
  | .hbm, ⟨54, _⟩ => ⟨S4x4x1x4096, .f32⟩
  | .hbm, ⟨55, _⟩ => ⟨S4x4x128x4096, .f32⟩
  | .hbm, ⟨56, _⟩ => ⟨S4x4x128x4096, .f32⟩
  | .hbm, ⟨57, _⟩ => ⟨S4x4x64x128, .f32⟩
  | .hbm, ⟨58, _⟩ => ⟨S4x4x64, .f32⟩
  | .hbm, ⟨59, _⟩ => ⟨S4x4x256x1024, .f32⟩
  | .hbm, ⟨60, _⟩ => ⟨S4x256x4x1024, .f32⟩
  | .hbm, ⟨61, _⟩ => ⟨S4x256x4096, .f32⟩
  | .hbm, ⟨62, _⟩ => ⟨S4x256x128, .f32⟩
  | .hbm, ⟨63, _⟩ => ⟨S4x2x128, .f32⟩
  | .hbm, ⟨64, _⟩ => ⟨S4x1x4, .f32⟩
  | .hbm, ⟨65, _⟩ => ⟨S4x128x128, .f32⟩
  | .hbm, ⟨66, _⟩ => ⟨S4x128x128, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S4x2x2816 : Shape := ⟨3, ![4, 2, 2816]⟩
abbrev S1024x1024 : Shape := ⟨2, ![1024, 1024]⟩
abbrev S1x2x2816 : Shape := ⟨3, ![1, 2, 2816]⟩
abbrev S2x1x1032x256 : Shape := ⟨4, ![2, 1, 1032, 256]⟩
abbrev S1024x2816 : Shape := ⟨2, ![1024, 2816]⟩
abbrev S1x8x2816 : Shape := ⟨3, ![1, 8, 2816]⟩
abbrev S1024x1 : Shape := ⟨2, ![1024, 1]⟩
abbrev S1024x256 : Shape := ⟨2, ![1024, 256]⟩
abbrev S1x1024x256 : Shape := ⟨3, ![1, 1024, 256]⟩
abbrev S1x2x256 : Shape := ⟨3, ![1, 2, 256]⟩
abbrev S1x1x2x256 : Shape := ⟨4, ![1, 1, 2, 256]⟩
abbrev S1x1x1024x256 : Shape := ⟨4, ![1, 1, 1024, 256]⟩
abbrev S1x256 : Shape := ⟨2, ![1, 256]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S1x2816, .f32⟩
  | .hbm, ⟨9, _⟩ => ⟨S2816x1024, .bf16⟩
  | .hbm, ⟨10, _⟩ => ⟨S16384x1024, .f32⟩
  | .hbm, ⟨11, _⟩ => ⟨S4x2x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | .local _ .vmem, ⟨9, _⟩ => ⟨S1x2x2816, .f32⟩
  | .local _ .vmem, ⟨10, _⟩ => ⟨S1x2x2816, .f32⟩
  | .local _ .vmem, ⟨11, _⟩ => ⟨S2x1x1032x256, .f32⟩
  | .local _ .vmem, ⟨12, _⟩ => ⟨S1024x2816, .bf16⟩
  | .local _ .vmem, ⟨13, _⟩ => ⟨S1x8x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v597 : BitVec 1 := Scalar.cmpi .eq arg1 c3_i32
  let v598 : BitVec 32 := Scalar.extui v597
  let c0_i32_438 : BitVec 32 := 0#32
  let v599 : BitVec 1 := Scalar.cmpi .ne v598 c0_i32_438
  v599

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x2x2816 : Shape := ⟨3, ![4, 2, 2816]⟩
abbrev S4x4098x2816 : Shape := ⟨3, ![4, 4098, 2816]⟩
abbrev S1x2816 : Shape := ⟨2, ![1, 2816]⟩
abbrev S1x1x2816 : Shape := ⟨3, ![1, 1, 2816]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S_, .f32⟩
  | .hbm, ⟨27, _⟩ => ⟨S4x2x2816, .f32⟩
  | .hbm, ⟨28, _⟩ => ⟨S4x4098x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S1x1x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x1024, .f32⟩
  | .hbm, ⟨63, _⟩ => ⟨S4x4096x1024, .f32⟩
  | .hbm, ⟨64, _⟩ => ⟨S16384x1024, .f32⟩
  | .hbm, ⟨65, _⟩ => ⟨S4x2x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S2312x1024 : Shape := ⟨2, ![2312, 1024]⟩
abbrev S_ : Shape := ⟨0, ![]⟩
abbrev S2432x1024 : Shape := ⟨2, ![2432, 1024]⟩
abbrev S1x1024 : Shape := ⟨2, ![1, 1024]⟩
abbrev S8x1 : Shape := ⟨2, ![8, 1]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S2x64 : Shape := ⟨2, ![2, 64]⟩
abbrev S128 : Shape := ⟨1, ![128]⟩
abbrev S128x1 : Shape := ⟨2, ![128, 1]⟩
abbrev S16x512x1024 : Shape := ⟨3, ![16, 512, 1024]⟩
abbrev S16384x128 : Shape := ⟨2, ![16384, 128]⟩
abbrev S16x256x1024 : Shape := ⟨3, ![16, 256, 1024]⟩
abbrev S16x8x1024 : Shape := ⟨3, ![16, 8, 1024]⟩
abbrev S1024x1024 : Shape := ⟨2, ![1024, 1024]⟩
abbrev S1x512x1024 : Shape := ⟨3, ![1, 512, 1024]⟩
abbrev S1024x128 : Shape := ⟨2, ![1024, 128]⟩
abbrev S1x256x1024 : Shape := ⟨3, ![1, 256, 1024]⟩
abbrev S1x8x1024 : Shape := ⟨3, ![1, 8, 1024]⟩
abbrev S128x1024 : Shape := ⟨2, ![128, 1024]⟩
abbrev S1024x256 : Shape := ⟨2, ![1024, 256]⟩
abbrev S512x1024 : Shape := ⟨2, ![512, 1024]⟩
abbrev S512x256 : Shape := ⟨2, ![512, 256]⟩
abbrev S8x64x256 : Shape := ⟨3, ![8, 64, 256]⟩
abbrev S8x256 : Shape := ⟨2, ![8, 256]⟩
abbrev S8x1x256 : Shape := ⟨3, ![8, 1, 256]⟩
abbrev S1x512x256 : Shape := ⟨3, ![1, 512, 256]⟩
abbrev S256x1024 : Shape := ⟨2, ![256, 1024]⟩
abbrev S256x256 : Shape := ⟨2, ![256, 256]⟩
abbrev S128x256 : Shape := ⟨2, ![128, 256]⟩
abbrev S2x64x256 : Shape := ⟨3, ![2, 64, 256]⟩
abbrev S2x256 : Shape := ⟨2, ![2, 256]⟩
abbrev S2x1x256 : Shape := ⟨3, ![2, 1, 256]⟩
abbrev S1x128x256 : Shape := ⟨3, ![1, 128, 256]⟩
abbrev S256x128 : Shape := ⟨2, ![256, 128]⟩
abbrev S1x256x256 : Shape := ⟨3, ![1, 256, 256]⟩
abbrev S16x1024 : Shape := ⟨2, ![16, 1024]⟩
abbrev S16x256 : Shape := ⟨2, ![16, 256]⟩
abbrev S1x8x256 : Shape := ⟨3, ![1, 8, 256]⟩

abbrev nBuf : Space → Nat
  | .hbm => 32
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2312, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S2312x1024, .f32⟩
  | .hbm, ⟨7, _⟩ => ⟨S2312x1024, .bf16⟩
  | .hbm, ⟨8, _⟩ => ⟨S_, .i32⟩
  | .hbm, ⟨9, _⟩ => ⟨S_, .bf16⟩
  | .hbm, ⟨10, _⟩ => ⟨S2432x1024, .bf16⟩
  | .hbm, ⟨11, _⟩ => ⟨S1x1024, .f32⟩
  | .hbm, ⟨12, _⟩ => ⟨S8x1, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S512x1, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S128x1, .f32⟩
  | .hbm, ⟨24, _⟩ => ⟨S16x512x1024, .bf16⟩
  | .hbm, ⟨25, _⟩ => ⟨S16384x128, .bf16⟩
  | .hbm, ⟨26, _⟩ => ⟨S16x256x1024, .f32⟩
  | .hbm, ⟨27, _⟩ => ⟨S16x256x1024, .bf16⟩
  | .hbm, ⟨28, _⟩ => ⟨S16x256x1024, .bf16⟩
  | .hbm, ⟨29, _⟩ => ⟨S16x512x1024, .bf16⟩
  | .hbm, ⟨30, _⟩ => ⟨S16x512x1024, .bf16⟩
  | .hbm, ⟨31, _⟩ => ⟨S16x8x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2432x1024, .bf16⟩
  | .local _ .vmem, ⟨4, _⟩ => ⟨S8x1, .f32⟩
  | .local _ .vmem, ⟨5, _⟩ => ⟨S512x1, .f32⟩
  | .local _ .vmem, ⟨6, _⟩ => ⟨S128x1, .f32⟩
  | .local _ .vmem, ⟨7, _⟩ => ⟨S1x512x1024, .bf16⟩
  | .local _ .vmem, ⟨8, _⟩ => ⟨S1x512x1024, .bf16⟩
  | .local _ .vmem, ⟨9, _⟩ => ⟨S1024x128, .bf16⟩
  | .local _ .vmem, ⟨10, _⟩ => ⟨S1024x128, .bf16⟩
  | .local _ .vmem, ⟨11, _⟩ => ⟨S1x256x1024, .f32⟩
  | .local _ .vmem, ⟨12, _⟩ => ⟨S1x256x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x8x1024, .f32⟩
  | .local _ .vmem, ⟨22, _⟩ => ⟨S1x8x1024, .f32⟩
  | .local _ .vmem, ⟨23, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev main_v15_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2432x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2312 : Shape := ⟨2, ![16384, 2312]⟩
abbrev S16384x512 : Shape := ⟨2, ![16384, 512]⟩
abbrev S16384x128 : Shape := ⟨2, ![16384, 128]⟩
abbrev S16384x256 : Shape := ⟨2, ![16384, 256]⟩
abbrev S16384x8 : Shape := ⟨2, ![16384, 8]⟩
abbrev S16384x8x64 : Shape := ⟨3, ![16384, 8, 64]⟩
abbrev S16384x8x1 : Shape := ⟨3, ![16384, 8, 1]⟩
abbrev S1x1x64 : Shape := ⟨3, ![1, 1, 64]⟩
abbrev S16384x2x64 : Shape := ⟨3, ![16384, 2, 64]⟩
abbrev S16384x2 : Shape := ⟨2, ![16384, 2]⟩
abbrev S16384x2x1 : Shape := ⟨3, ![16384, 2, 1]⟩
abbrev S1x8 : Shape := ⟨2, ![1, 8]⟩
abbrev S16384x4 : Shape := ⟨2, ![16384, 4]⟩
abbrev S16x1024x512 : Shape := ⟨3, ![16, 1024, 512]⟩
abbrev S16x512x1024 : Shape := ⟨3, ![16, 512, 1024]⟩
abbrev S16x1024x256 : Shape := ⟨3, ![16, 1024, 256]⟩
abbrev S16x256x1024 : Shape := ⟨3, ![16, 256, 1024]⟩
abbrev S16x1024x8 : Shape := ⟨3, ![16, 1024, 8]⟩
abbrev S16x8x1024 : Shape := ⟨3, ![16, 8, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2312, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2312, .f32⟩
  | .hbm, ⟨23, _⟩ => ⟨S16384x512, .f32⟩
  | .hbm, ⟨24, _⟩ => ⟨S16384x128, .f32⟩
  | .hbm, ⟨25, _⟩ => ⟨S16384x128, .f32⟩
  | .hbm, ⟨26, _⟩ => ⟨S16384x256, .f32⟩
  | .hbm, ⟨27, _⟩ => ⟨S16384x256, .f32⟩
  | .hbm, ⟨28, _⟩ => ⟨S16384x512, .f32⟩
  | .hbm, ⟨29, _⟩ => ⟨S16384x512, .f32⟩
  | .hbm, ⟨30, _⟩ => ⟨S16384x8, .f32⟩
  | .hbm, ⟨31, _⟩ => ⟨S16384x8x64, .f32⟩
  | .hbm, ⟨32, _⟩ => ⟨S16384x8x64, .f32⟩
  | .hbm, ⟨33, _⟩ => ⟨S_, .f32⟩
  | .hbm, ⟨34, _⟩ => ⟨S16384x8, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S16384x8x1, .f32⟩
  | .hbm, ⟨43, _⟩ => ⟨S16384x8x64, .f32⟩
  | .hbm, ⟨44, _⟩ => ⟨S16384x8x64, .f32⟩
  | .hbm, ⟨45, _⟩ => ⟨S1x1x64, .f32⟩
  | .hbm, ⟨46, _⟩ => ⟨S16384x8x64, .f32⟩
  | .hbm, ⟨47, _⟩ => ⟨S16384x8x64, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S16384x2x64, .f32⟩
  | .hbm, ⟨53, _⟩ => ⟨S16384x2x64, .f32⟩
  | .hbm, ⟨54, _⟩ => ⟨S_, .f32⟩
  | .hbm, ⟨55, _⟩ => ⟨S16384x2, .f32⟩
  | .hbm, ⟨56, _⟩ => ⟨S16384x2x1, .f32⟩
  | .hbm, ⟨57, _⟩ => ⟨S_, .f32⟩
  | .hbm, ⟨58, _⟩ => ⟨S16384x2x1, .f32⟩
  | .hbm, ⟨59, _⟩ => ⟨S16384x2x1, .f32⟩
  | .hbm, ⟨60, _⟩ => ⟨S_, .f32⟩
  | .hbm, ⟨61, _⟩ => ⟨S16384x2x1, .f32⟩
  | .hbm, ⟨62, _⟩ => ⟨S16384x2x1, .f32⟩
  | .hbm, ⟨63, _⟩ => ⟨S16384x2x1, .f32⟩
  | .hbm, ⟨64, _⟩ => ⟨S16384x2x64, .f32⟩
  | .hbm, ⟨65, _⟩ => ⟨S16384x2x64, .f32⟩
  | .hbm, ⟨66, _⟩ => ⟨S1x1x64, .f32⟩
  | .hbm, ⟨67, _⟩ => ⟨S16384x2x64, .f32⟩
  | .hbm, ⟨68, _⟩ => ⟨S16384x2x64, .f32⟩
  | .hbm, ⟨69, _⟩ => ⟨S16384x128, .f32⟩
  | .hbm, ⟨70, _⟩ => ⟨S1x8, .f32⟩
  | .hbm, ⟨71, _⟩ => ⟨S16384x8, .f32⟩
  | .hbm, ⟨72, _⟩ => ⟨S16384x8, .f32⟩
  | .hbm, ⟨73, _⟩ => ⟨S16384x4, .f32⟩
  | .hbm, ⟨74, _⟩ => ⟨S_, .f32⟩
  | .hbm, ⟨75, _⟩ => ⟨S16384x4, .f32⟩
  | .hbm, ⟨76, _⟩ => ⟨S16384x4, .f32⟩
  | .hbm, ⟨77, _⟩ => ⟨S16384x4, .f32⟩
  | .hbm, ⟨78, _⟩ => ⟨S16384x4, .f32⟩
  | .hbm, ⟨79, _⟩ => ⟨S16384x4, .f32⟩
  | .hbm, ⟨80, _⟩ => ⟨S16384x4, .f32⟩
  | .hbm, ⟨81, _⟩ => ⟨S16384x4, .f32⟩
  | .hbm, ⟨82, _⟩ => ⟨S16x1024x512, .f32⟩
  | .hbm, ⟨83, _⟩ => ⟨S16x512x1024, .f32⟩
  | .hbm, ⟨84, _⟩ => ⟨S16x512x1024, .bf16⟩
  | .hbm, ⟨85, _⟩ => ⟨S16384x128, .bf16⟩
  | .hbm, ⟨86, _⟩ => ⟨S16384x256, .f32⟩
  | .hbm, ⟨87, _⟩ => ⟨S16x1024x256, .f32⟩
  | .hbm, ⟨88, _⟩ => ⟨S16x256x1024, .f32⟩
  | .hbm, ⟨89, _⟩ => ⟨S_, .f32⟩
  | .hbm, ⟨90, _⟩ => ⟨S16384x256, .f32⟩
  | .hbm, ⟨91, _⟩ => ⟨S16384x256, .f32⟩
  | .hbm, ⟨92, _⟩ => ⟨S16x1024x256, .f32⟩
  | .hbm, ⟨93, _⟩ => ⟨S16x256x1024, .f32⟩
  | .hbm, ⟨94, _⟩ => ⟨S16x256x1024, .bf16⟩
  | .hbm, ⟨95, _⟩ => ⟨S16x1024x256, .f32⟩
  | .hbm, ⟨96, _⟩ => ⟨S16x256x1024, .f32⟩
  | .hbm, ⟨97, _⟩ => ⟨S16x256x1024, .bf16⟩
  | .hbm, ⟨98, _⟩ => ⟨S16x1024x512, .f32⟩
  | .hbm, ⟨99, _⟩ => ⟨S16x512x1024, .f32⟩
  | .hbm, ⟨100, _⟩ => ⟨S16x512x1024, .bf16⟩
  | .hbm, ⟨101, _⟩ => ⟨S16x1024x512, .f32⟩
  | .hbm, ⟨102, _⟩ => ⟨S16x512x1024, .f32⟩
  | .hbm, ⟨103, _⟩ => ⟨S16x512x1024, .bf16⟩
  | .hbm, ⟨104, _⟩ => ⟨S16384x4, .f32⟩
  | .hbm, ⟨105, _⟩ => ⟨S16384x8, .f32⟩
  | .hbm, ⟨106, _⟩ => ⟨S16x1024x8, .f32⟩
  | .hbm, ⟨107, _⟩ => ⟨S16x8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== Kernel4.lean ====
abbrev S1024x1024 : Shape := ⟨2, ![1024, 1024]⟩
abbrev S128x2x2816 : Shape := ⟨3, ![128, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S512x1024 : Shape := ⟨2, ![512, 1024]⟩
abbrev S64x2x2816 : Shape := ⟨3, ![64, 2, 2816]⟩
abbrev S2x64x16x256 : Shape := ⟨4, ![2, 64, 16, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S64x8x256 : Shape := ⟨3, ![64, 8, 256]⟩
abbrev S64x2x256 : Shape := ⟨3, ![64, 2, 256]⟩
abbrev S1x64x2x256 : Shape := ⟨4, ![1, 64, 2, 256]⟩
abbrev S1x64x8x256 : Shape := ⟨4, ![1, 64, 8, 256]⟩
abbrev S1x256 : Shape := ⟨2, ![1, 256]⟩

abbrev nBuf : Space → Nat
  | .hbm => 13
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S128x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1024x1024, .f32⟩
  | .hbm, ⟨12, _⟩ => ⟨S128x2x2816, .f32⟩
  | .local _ .vmem, ⟨0, _⟩ => ⟨S512x1024, .f32⟩
  | .local _ .vmem, ⟨1, _⟩ => ⟨S512x1024, .f32⟩
  | .local _ .vmem, ⟨2, _⟩ => ⟨S64x2x2816, .f32⟩
  | .local _ .vmem, ⟨3, _⟩ => ⟨S64x2x2816, .f32⟩
  | .local _ .vmem, ⟨4, _⟩ => ⟨S1x1024, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S64x2x2816, .f32⟩
  | .local _ .vmem, ⟨12, _⟩ => ⟨S64x2x2816, .f32⟩
  | .local _ .vmem, ⟨13, _⟩ => ⟨S2x64x16x256, .f32⟩
  | .local _ .vmem, ⟨14, _⟩ => ⟨S512x2816, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S1024x1024 : Shape := ⟨2, ![1024, 1024]⟩
abbrev S128x2x2816 : Shape := ⟨3, ![128, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩
abbrev S128x10x2816 : Shape := ⟨3, ![128, 10, 2816]⟩
abbrev S1x2816 : Shape := ⟨2, ![1, 2816]⟩
abbrev S1x1x2816 : Shape := ⟨3, ![1, 1, 2816]⟩

abbrev nBuf : Space → Nat
  | .hbm => 65
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S128x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S128x8x1024, .f32⟩
  | .hbm, ⟨8, _⟩ => ⟨S128x8x1024, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x1024, .f32⟩
  | .hbm, ⟨20, _⟩ => ⟨S128x8x1024, .f32⟩
  | .hbm, ⟨21, _⟩ => ⟨S1x1x1024, .f32⟩
  | .hbm, ⟨22, _⟩ => ⟨S128x8x1024, .f32⟩
  | .hbm, ⟨23, _⟩ => ⟨S128x8x1024, .f32⟩
  | .hbm, ⟨24, _⟩ => ⟨S128x8x5632, .f32⟩
  | .hbm, ⟨25, _⟩ => ⟨S128x8x2816, .f32⟩
  | .hbm, ⟨26, _⟩ => ⟨S128x8x2816, .f32⟩
  | .hbm, ⟨27, _⟩ => ⟨S128x10x2816, .f32⟩
  | .hbm, ⟨28, _⟩ => ⟨S128x8x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S128x8x2816, .f32⟩
  | .hbm, ⟨33, _⟩ => ⟨S128x8x2816, .f32⟩
  | .hbm, ⟨34, _⟩ => ⟨S1x1x2816, .f32⟩
  | .hbm, ⟨35, _⟩ => ⟨S128x8x2816, .f32⟩
  | .hbm, ⟨36, _⟩ => ⟨S128x8x2816, .f32⟩
  | .hbm, ⟨37, _⟩ => ⟨S128x8x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S128x8x2816, .f32⟩
  | .hbm, ⟨42, _⟩ => ⟨S128x8x2816, .f32⟩
  | .hbm, ⟨43, _⟩ => ⟨S128x8x2816, .f32⟩
  | .hbm, ⟨44, _⟩ => ⟨S128x8x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S128x8x2816, .f32⟩
  | .hbm, ⟨49, _⟩ => ⟨S128x8x2816, .f32⟩
  | .hbm, ⟨50, _⟩ => ⟨S128x8x2816, .f32⟩
  | .hbm, ⟨51, _⟩ => ⟨S128x8x2816, .f32⟩
  | .hbm, ⟨52, _⟩ => ⟨S128x8x2816, .f32⟩
  | .hbm, ⟨53, _⟩ => ⟨S_, .f32⟩
  | .hbm, ⟨54, _⟩ => ⟨S128x8x2816, .f32⟩
  | .hbm, ⟨55, _⟩ => ⟨S128x8x2816, .f32⟩
  | .hbm, ⟨56, _⟩ => ⟨S_, .f32⟩
  | .hbm, ⟨57, _⟩ => ⟨S128x8x2816, .f32⟩
  | .hbm, ⟨58, _⟩ => ⟨S128x8x2816, .f32⟩
  | .hbm, ⟨59, _⟩ => ⟨S128x8x2816, .f32⟩
  | .hbm, ⟨60, _⟩ => ⟨S128x8x2816, .f32⟩
  | .hbm, ⟨61, _⟩ => ⟨S128x8x1024, .f32⟩
  | .hbm, ⟨62, _⟩ => ⟨S128x8x1024, .f32⟩
  | .hbm, ⟨63, _⟩ => ⟨S1024x1024, .f32⟩
  | .hbm, ⟨64, _⟩ => ⟨S128x2x2816, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.FfnSpec.lean ====
module

public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.FfnSpec

/-- Entry `k` of row `r` of the input after the root-mean-square normalisation and its weight. -/
def normed {n : ℕ} (x : (⟨2, ![n, 1024]⟩ : Shape).Idx → EReal) (w : Fin 1024 → EReal) (r : Fin n) (k : Fin 1024) : EReal :=
  x (ix2 r k) * Ideal.rsqrt (Ideal.div (∑ l : Fin 1024, x (ix2 r l) * x (ix2 r l)) (Ideal.ofBits .f32 0x44800000#32)
    + Ideal.ofBits .f32 0x358637BD#32) * w k

/-- Column `f` of the up projection of row `r`: the first 2816 columns feed the convolution, the others are the gate's. -/
def proj {n : ℕ} (x : (⟨2, ![n, 1024]⟩ : Shape).Idx → EReal) (w : Fin 1024 → EReal) (wf : (⟨2, ![1024, 5632]⟩ : Shape).Idx → EReal)
    (r : Fin n) (f : Fin 5632) : EReal :=
  ∑ k : Fin 1024, normed x w r k * wf (ix2 k f)

/-- The three-tap convolution's output from its bias, its taps and the projections two rows back, one row back and here. -/
def conv (cb c0 c1 c2 g0 g1 g2 : EReal) : EReal := cb + g2 * c2 + g1 * c1 + g0 * c0

/-- The gated activation `z · σ(z) · u`. -/
def act (z u : EReal) : EReal := z * Ideal.div 1 (1 + Ideal.exp (0 - z)) * u

end Cert.FfnSpec
-- ==== Proof.FfnPoint.lean ====
module

public import proofs.«01_k».proof.Proof.Gen.Kernel2Ideal.Value
public import proofs.«01_k».proof.Proof.FfnSpec
public import Idealize.ShloMosaic.Lib.Pipeline.ReadBack

@[expose] public section

set_option maxRecDepth 16384
noncomputable section
open Idealize.ShloMosaic Idealize.ShloMosaic.TcCoe Idealize.SL.Sem
namespace Cert.Kernel2Ideal.FfnValue
open Cert.Kernel2Ideal Cert.Kernel2Ideal.Gen Cert.FfnSpec
variable (m : (ℓ : Loc nD τ sig) → Buf (Elt Ideal) ℓ)

/-- Pieces read under the newest one: its payload at the place the index has inside it. -/
theorem canon_at {S : Shape} {e : EltTy} (off size : Fin S.rank → ℕ) (inb : ∀ a, off a + size a ≤ S.size a)
    (w : (⟨S.rank, size⟩ : Shape).Idx → Elt Ideal e) (L : List (View.Piece (Elt Ideal) S e)) (y : S.Idx)
    (x : (⟨S.rank, size⟩ : Shape).Idx) (h : ∀ a, (y a : ℕ) = off a + (x a : ℕ)) :
    View.canon (⟨Rect.unit off size inb, w⟩ :: L) y = w x := by
  have hy : y = (Rect.unit off size inb).emb x := funext fun a => Fin.ext (by
    rw [h a, ValueKit.rect_emb_unit_val])
  rw [hy]
  exact View.canon_cons_emb (Rect.unit off size inb) w L x

/-- Pieces read off the newest one, on axis `a`: the earlier pieces there. -/
theorem canon_off {S : Shape} {e : EltTy} (off size : Fin S.rank → ℕ) (inb : ∀ a, off a + size a ≤ S.size a)
    (w : (⟨S.rank, size⟩ : Shape).Idx → Elt Ideal e) (L : List (View.Piece (Elt Ideal) S e)) (y : S.Idx)
    (a : Fin S.rank) (h : (y a : ℕ) < off a ∨ off a + size a ≤ (y a : ℕ)) :
    View.canon (⟨Rect.unit off size inb, w⟩ :: L) y = View.canon L y := by
  refine View.canon_cons_of_not_mem _ _ fun hm => ?_
  have := (Rect.mem_set_unit (inb := inb)).1 hm a
  omega

/-- Pieces read under the second newest one, off the newest on axis `a`. -/
theorem canon_second {S : Shape} {e : EltTy} (off size : Fin S.rank → ℕ) (inb : ∀ a, off a + size a ≤ S.size a)
    (w : (⟨S.rank, size⟩ : Shape).Idx → Elt Ideal e) (off' size' : Fin S.rank → ℕ) (inb' : ∀ a, off' a + size' a ≤ S.size a)
    (w' : (⟨S.rank, size'⟩ : Shape).Idx → Elt Ideal e) (L : List (View.Piece (Elt Ideal) S e)) (y : S.Idx)
    (a : Fin S.rank) (ha : (y a : ℕ) < off a ∨ off a + size a ≤ (y a : ℕ))
    (x : (⟨S.rank, size'⟩ : Shape).Idx) (h : ∀ a, (y a : ℕ) = off' a + (x a : ℕ)) :
    View.canon (⟨Rect.unit off size inb, w⟩ :: ⟨Rect.unit off' size' inb', w'⟩ :: L) y = w' x :=
  (canon_off off size inb w _ y a ha).trans (canon_at off' size' inb' w' L y x h)

/-- A load of 1024 rows of a slot of the convolution buffer from row `o`, after the two carried rows and the tile's rows were stored
    there: the carried rows come first, then the tile's. -/
theorem gbuf_read {κ : Kind} {sp : Space} {sig : RefSig} (v : View sig κ sp S2x1x1032x256 .f32) (s o : ℕ)
    (inb : ∀ a, (![s, 0, 8, 0] : Fin 4 → ℕ) a + (![1, 1, 1024, 256] : Fin 4 → ℕ) a ≤ S2x1x1032x256.size a)
    (inb' : ∀ a, (![s, 0, 6, 0] : Fin 4 → ℕ) a + (![1, 1, 2, 256] : Fin 4 → ℕ) a ≤ S2x1x1032x256.size a)
    (inb'' : ∀ a, (![s, 0, o, 0] : Fin 4 → ℕ) a + (![1, 1, 1024, 256] : Fin 4 → ℕ) a ≤ S2x1x1032x256.size a)
    (B : FVec Ideal S1x1x1024x256 .f32) (A : FVec Ideal S1x1x2x256 .f32)
    (L : List (View.Piece (Elt Ideal) S2x1x1032x256 .f32)) (r : Fin 1024) (q : Fin 256) (ho : 6 ≤ o ∧ o ≤ 8) :
    v.readCov (⟨Rect.unit (s := S2x1x1032x256) ![s, 0, 8, 0] ![1, 1, 1024, 256] inb, B⟩
        :: ⟨Rect.unit (s := S2x1x1032x256) ![s, 0, 6, 0] ![1, 1, 2, 256] inb', A⟩ :: L)
      (Rect.unit (s := S2x1x1032x256) ![s, 0, o, 0] ![1, 1, 1024, 256] inb'').toLoadRect (ix4 0 0 r q : S1x1x1024x256.Idx)
    = if h : o + r.val < 8 then A (ix4 0 0 ⟨o + r - 6, by omega⟩ q) else B (ix4 0 0 ⟨o + r - 8, by omega⟩ q) := by
  rw [View.readCov_eq_canon']
  beta_reduce
  have e : ∀ a : Fin 4, (((Rect.unit (s := S2x1x1032x256) ![s, 0, o, 0] ![1, 1, 1024, 256] inb'').toLoadRect.idx
      (ix4 0 0 r q : S1x1x1024x256.Idx)) a : ℕ) = (![s, 0, o + r, q] : Fin 4 → ℕ) a := by
    intro a
    match a with
    | 0 => simp [LoadRect.idx]
    | 1 => simp [LoadRect.idx]
    | 2 => simp [LoadRect.idx]
    | 3 => simp [LoadRect.idx]
  generalize (Rect.unit (s := S2x1x1032x256) ![s, 0, o, 0] ![1, 1, 1024, 256] inb'').toLoadRect.idx (ix4 0 0 r q : S1x1x1024x256.Idx) = y at e ⊢
  have e0 : (y 0 : ℕ) = s := e 0
  have e1 : (y 1 : ℕ) = 0 := e 1
  have e2 : (y 2 : ℕ) = o + r := e 2
  have e3 : (y 3 : ℕ) = q := e 3
  by_cases h : o + r.val < 8
  · rw [dif_pos h]
    have hx : ∀ a : Fin 4, (y a : ℕ) = (![s, 0, 6, 0] : Fin 4 → ℕ) a + ((ix4 0 0 ⟨o + r - 6, by omega⟩ q : S1x1x2x256.Idx) a : ℕ) := by
      intro a
      match a with
      | 0 => exact e0
      | 1 => exact e1
      | 2 => rw [e2]; show _ = 6 + (o + r.val - 6); omega
      | 3 => rw [e3]; show _ = 0 + q.val; omega
    have hl : (y 2 : ℕ) < 8 := by rw [e2]; exact h
    have key := canon_second (S := S2x1x1032x256) (![s, 0, 8, 0] : Fin 4 → ℕ) (![1, 1, 1024, 256] : Fin 4 → ℕ) inb B
      (![s, 0, 6, 0] : Fin 4 → ℕ) (![1, 1, 2, 256] : Fin 4 → ℕ) inb' A L y (2 : Fin 4)
    have key2 := key (Or.inl hl) (ix4 0 0 ⟨o + r - 6, by omega⟩ q : S1x1x2x256.Idx)
    have key3 := key2 hx
    exact key3
  · rw [dif_neg h]
    have hx : ∀ a : Fin 4, (y a : ℕ) = (![s, 0, 8, 0] : Fin 4 → ℕ) a + ((ix4 0 0 ⟨o + r - 8, by omega⟩ q : S1x1x1024x256.Idx) a : ℕ) := by
      intro a
      match a with
      | 0 => exact e0
      | 1 => exact e1
      | 2 => rw [e2]; show _ = 8 + (o + r.val - 8); omega
      | 3 => rw [e3]; show _ = 0 + q.val; omega
    have key := fun L' : List (View.Piece (Elt Ideal) S2x1x1032x256 .f32) => canon_at (S := S2x1x1032x256) (![s, 0, 8, 0] : Fin 4 → ℕ) (![1, 1, 1024, 256] : Fin 4 → ℕ) inb B L' y
    have key2 := fun L' => key L' (ix4 0 0 ⟨o + r - 8, by omega⟩ q : S1x1x1024x256.Idx)
    exact key2 _ hx

/-- What the tile's activation is at a row and a column, from the tile's blocks and the two carried rows. -/
def tileAct (x : FVec Ideal S1024x1024 .f32) (w : FVec Ideal S1x1024 .f32) (wf : FVec Ideal S1024x5632 .bf16)
    (cw : FVec Ideal S3x2816 .f32) (cb : FVec Ideal S1x2816 .f32) (cr : FVec Ideal S1x8x2816 .f32) (r : Fin 1024) (f : Fin 2816) : EReal :=
  act (conv (cb (ix2 0 f)) (cw (ix2 0 f)) (cw (ix2 1 f)) (cw (ix2 2 f))
      (if h : 6 + r.val < 8 then cr (ix3 0 ⟨6 + r, by omega⟩ f) else proj x (fun k => w (ix2 0 k)) wf ⟨6 + r - 8, by omega⟩ ⟨f, by omega⟩)
      (if h : 7 + r.val < 8 then cr (ix3 0 ⟨7 + r, by omega⟩ f) else proj x (fun k => w (ix2 0 k)) wf ⟨7 + r - 8, by omega⟩ ⟨f, by omega⟩)
      (proj x (fun k => w (ix2 0 k)) wf r ⟨f, by omega⟩))
    (proj x (fun k => w (ix2 0 k)) wf r ⟨2816 + f, by omega⟩)

end Cert.Kernel2Ideal.FfnValue
-- ==== Proof.FfnYA.lean ====
module

public import proofs.«01_k».proof.Proof.FfnPoint

@[expose] public section

set_option maxRecDepth 16384
noncomputable section
open Idealize.ShloMosaic Idealize.ShloMosaic.TcCoe Idealize.SL.Sem
namespace Cert.Kernel2Ideal.FfnValue
open Cert.Kernel2Ideal Cert.Kernel2Ideal.Gen Cert.FfnSpec
variable (m : (ℓ : Loc nD τ sig) → Buf (Elt Ideal) ℓ)

/-- The first result at a sequence's first tile: the same with a zero carry. -/
theorem y_first (c : Dev nD) (t : Fin cfg0.N) (h0 : t.val % 4 = 0) (h1 : ¬ t.val % 4 = 3) (r j : Fin 1024) :
   (outsAt0 m c t.val t.isLt).1 (ix2 r j) = (show FVec Ideal S1024x1024 .f32 from iblk m c 0 t) (ix2 r j)
     + ∑ f : Fin 2816, tileAct (iblk m c 0 t) (iblk m c 1 t) (iblk m c 2 t) (iblk m c 3 t) (iblk m c 4 t) (fun _ => 0) r f
       * (show FVec Ideal S2816x1024 .bf16 from iblk m c 5 t) (ix2 f j) := by
  rw [outsAt0_A m c t h0 h1]
  frame_out
  pointwise [k0_pay2]
  refine Ideal.add_congr rfl (Finset.sum_congr rfl fun f _ => Ideal.mul_congr ?_ rfl)
  simp (disch := decide) only [↓View.readCov_skip, ↓View.readCov_fill]
  rw [View.readCov_eq_canon']
  generalize iblk m c 0 t = y0
  generalize iblk m c 1 t = y1
  generalize iblk m c 2 t = y2
  generalize iblk m c 3 t = y3
  generalize iblk m c 4 t = y4
  beta_reduce
  canon_tiles x h
  all_goals
    open_payloads
    idx_vars x
    have e0 : (r : ℕ) = x0 := by simpa using h0
    obtain rfl : r = x0 := Fin.ext e0
    have e1 := h1
    simp at e1
    pointwise [k0_pay3, gbuf_read, tileAct, act, conv, proj, normed]
    blk_point []

end Cert.Kernel2Ideal.FfnValue
-- ==== Proof.FfnYB.lean ====
module

public import proofs.«01_k».proof.Proof.FfnPoint

@[expose] public section

set_option maxRecDepth 16384
noncomputable section
open Idealize.ShloMosaic Idealize.ShloMosaic.TcCoe Idealize.SL.Sem
namespace Cert.Kernel2Ideal.FfnValue
open Cert.Kernel2Ideal Cert.Kernel2Ideal.Gen Cert.FfnSpec
variable (m : (ℓ : Loc nD τ sig) → Buf (Elt Ideal) ℓ)

/-- The first result at a middle tile of a sequence: the row plus the down-projected activation, the first two rows' shifted gates taken from the carry the tile before left. -/
theorem y_mid (c : Dev nD) (t : Fin cfg0.N) (h0 : ¬ t.val % 4 = 0) (h1 : ¬ t.val % 4 = 3) (r j : Fin 1024) :
   (outsAt0 m c t.val t.isLt).1 (ix2 r j) = (show FVec Ideal S1024x1024 .f32 from iblk m c 0 t) (ix2 r j)
     + ∑ f : Fin 2816, tileAct (iblk m c 0 t) (iblk m c 1 t) (iblk m c 2 t) (iblk m c 3 t) (iblk m c 4 t) (outsAt0 m c (t.val - 1) (Nat.lt_of_le_of_lt (Nat.sub_le _ _) t.isLt)).2.2 r f
       * (show FVec Ideal S2816x1024 .bf16 from iblk m c 5 t) (ix2 f j) := by
  rw [outsAt0_B m c t h0 h1]
  frame_out
  pointwise [k0_pay2]
  refine Ideal.add_congr rfl (Finset.sum_congr rfl fun f _ => Ideal.mul_congr ?_ rfl)
  simp only [read_unread_whole]
  rw [View.readCov_eq_canon']
  generalize iblk m c 0 t = y0
  generalize iblk m c 1 t = y1
  generalize iblk m c 2 t = y2
  generalize iblk m c 3 t = y3
  generalize iblk m c 4 t = y4
  generalize (outsAt0 m c (t.val - 1) (Nat.lt_of_le_of_lt (Nat.sub_le _ _) t.isLt)).2.2 = cr
  beta_reduce
  canon_tiles x h
  all_goals
    open_payloads
    idx_vars x
    have e0 : (r : ℕ) = x0 := by simpa using h0
    obtain rfl : r = x0 := Fin.ext e0
    have e1 := h1
    simp at e1
    pointwise [gbuf_read, tileAct, act, conv, proj, normed]
    blk_point []

end Cert.Kernel2Ideal.FfnValue
-- ==== Proof.FfnYC.lean ====
module

public import proofs.«01_k».proof.Proof.FfnPoint

@[expose] public section

set_option maxRecDepth 16384
noncomputable section
open Idealize.ShloMosaic Idealize.ShloMosaic.TcCoe Idealize.SL.Sem
namespace Cert.Kernel2Ideal.FfnValue
open Cert.Kernel2Ideal Cert.Kernel2Ideal.Gen Cert.FfnSpec
variable (m : (ℓ : Loc nD τ sig) → Buf (Elt Ideal) ℓ)

/-- The first result at a sequence's last tile. -/
theorem y_last (c : Dev nD) (t : Fin cfg0.N) (h0 : ¬ t.val % 4 = 0) (h1 : t.val % 4 = 3) (r j : Fin 1024) :
   (outsAt0 m c t.val t.isLt).1 (ix2 r j) = (show FVec Ideal S1024x1024 .f32 from iblk m c 0 t) (ix2 r j)
     + ∑ f : Fin 2816, tileAct (iblk m c 0 t) (iblk m c 1 t) (iblk m c 2 t) (iblk m c 3 t) (iblk m c 4 t) (outsAt0 m c (t.val - 1) (Nat.lt_of_le_of_lt (Nat.sub_le _ _) t.isLt)).2.2 r f
       * (show FVec Ideal S2816x1024 .bf16 from iblk m c 5 t) (ix2 f j) := by
  rw [outsAt0_C m c t h0 h1]
  frame_out
  pointwise [k0_pay2]
  refine Ideal.add_congr rfl (Finset.sum_congr rfl fun f _ => Ideal.mul_congr ?_ rfl)
  simp only [read_unread_whole]
  rw [View.readCov_eq_canon']
  generalize iblk m c 0 t = y0
  generalize iblk m c 1 t = y1
  generalize iblk m c 2 t = y2
  generalize iblk m c 3 t = y3
  generalize iblk m c 4 t = y4
  generalize (outsAt0 m c (t.val - 1) (Nat.lt_of_le_of_lt (Nat.sub_le _ _) t.isLt)).2.2 = cr
  beta_reduce
  canon_tiles x h
  all_goals
    open_payloads
    idx_vars x
    have e0 : (r : ℕ) = x0 := by simpa using h0
    obtain rfl : r = x0 := Fin.ext e0
    have e1 := h1
    simp at e1
    pointwise [gbuf_read, tileAct, act, conv, proj, normed]
    blk_point []

end Cert.Kernel2Ideal.FfnValue
-- ==== Proof.FfnCarry.lean ====
module

public import proofs.«01_k».proof.Proof.FfnPoint

@[expose] public section

set_option maxRecDepth 16384
noncomputable section
open Idealize.ShloMosaic Idealize.ShloMosaic.TcCoe Idealize.SL.Sem
namespace Cert.Kernel2Ideal.FfnValue
open Cert.Kernel2Ideal Cert.Kernel2Ideal.Gen Cert.FfnSpec
variable (m : (ℓ : Loc nD τ sig) → Buf (Elt Ideal) ℓ)

/-- Where some piece of the later stores covers an index, the earlier stores do not matter. -/
theorem canon_front {Val : EltTy → Type} {S : Shape} {e : EltTy} [∀ e, Nonempty (Val e)] : ∀ (L L' : List (View.Piece Val S e)) {y : S.Idx},
    (∃ p ∈ L, y ∈ p.1.set) → View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      exact (View.canon_cons_emb p.1 p.2 (L ++ L') x).trans (View.canon_cons_emb p.1 p.2 L x).symm
    · have hL : ∃ q ∈ L, y ∈ q.1.set := by
        obtain ⟨q, hq, hy⟩ := hc
        rcases List.mem_cons.mp hq with rfl | hq
        · exact absurd hy hm
        · exact ⟨q, hq, hy⟩
      exact (View.canon_cons_of_not_mem p (L ++ L') hm).trans ((canon_front L L' hL).trans (View.canon_cons_of_not_mem p L hm).symm)

/-- A middle tile leaves its last two gate rows in rows 6 and 7 of the carry. -/
theorem carry_mid (c : Dev nD) (t : Fin cfg0.N) (h0 : ¬ t.val % 4 = 0) (h1 : ¬ t.val % 4 = 3) (s : Fin 2) (f : Fin 2816) :
   (outsAt0 m c t.val t.isLt).2.2 (ix3 0 ⟨6 + s, by omega⟩ f) = proj (iblk m c 0 t) (fun k => (show FVec Ideal S1x1024 .f32 from iblk m c 1 t) (ix2 0 k)) (iblk m c 2 t) ⟨1022 + s, by omega⟩ ⟨f, by omega⟩ := by
  rw [outsAt0_B m c t h0 h1]
  frame_out
  generalize iblk m c 0 t = y0
  generalize iblk m c 1 t = y1
  generalize iblk m c 2 t = y2
  generalize (outsAt0 m c (t.val - 1) (Nat.lt_of_le_of_lt (Nat.sub_le _ _) t.isLt)).2.2 = cr
  refine (View.read_writes_apply_eq_canon _ _ _ _ ?_).trans ?_
  · simp only [List.mem_cons, exists_eq_or_imp, Rect.mem_set_unit, Fin.forall_fin_succ, List.not_mem_nil]
    simp
    omega
  canon_tiles x h using (by
    simp only [List.mem_cons, exists_eq_or_imp, Rect.mem_set_unit, Fin.forall_fin_succ, List.not_mem_nil]
    simp
    omega)
  all_goals
    open_payloads
    idx_vars x
    have e1 := h1
    simp at e1
    have e2 := h2
    simp at e2
    pointwise [proj, normed]
    blk_point []

/-- A sequence's first tile leaves its last two gate rows in rows 6 and 7 of the carry. -/
theorem carry_first (c : Dev nD) (t : Fin cfg0.N) (h0 : t.val % 4 = 0) (h1 : ¬ t.val % 4 = 3) (s : Fin 2) (f : Fin 2816) :
   (outsAt0 m c t.val t.isLt).2.2 (ix3 0 ⟨6 + s, by omega⟩ f) = proj (iblk m c 0 t) (fun k => (show FVec Ideal S1x1024 .f32 from iblk m c 1 t) (ix2 0 k)) (iblk m c 2 t) ⟨1022 + s, by omega⟩ ⟨f, by omega⟩ := by
  rw [outsAt0_A m c t h0 h1]
  frame_out
  generalize iblk m c 0 t = y0
  generalize iblk m c 1 t = y1
  generalize iblk m c 2 t = y2
  refine (canon_front [_, _, _, _, _, _, _, _, _, _, _] [_] ?_).trans ?_
  · simp only [List.mem_cons, exists_eq_or_imp, Rect.mem_set_unit, Fin.forall_fin_succ, List.not_mem_nil]
    simp
    omega
  canon_tiles x h using (by
    simp only [List.mem_cons, exists_eq_or_imp, Rect.mem_set_unit, Fin.forall_fin_succ, List.not_mem_nil]
    simp
    omega)
  all_goals
    open_payloads
    idx_vars x
    have e1 := h1
    simp at e1
    have e2 := h2
    simp at e2
    pointwise [proj, normed]
    blk_point []

/-- A sequence's last tile writes its last two gate rows to the second result. -/
theorem conv_last (c : Dev nD) (t : Fin cfg0.N) (h0 : ¬ t.val % 4 = 0) (h1 : t.val % 4 = 3) (s : Fin 2) (f : Fin 2816) :
   (outsAt0 m c t.val t.isLt).2.1 (ix3 0 s f) = proj (iblk m c 0 t) (fun k => (show FVec Ideal S1x1024 .f32 from iblk m c 1 t) (ix2 0 k)) (iblk m c 2 t) ⟨1022 + s, by omega⟩ ⟨f, by omega⟩ := by
  rw [outsAt0_C m c t h0 h1]
  frame_out
  rw [View.readCov_eq_canon']
  generalize iblk m c 0 t = y0
  generalize iblk m c 1 t = y1
  generalize iblk m c 2 t = y2
  beta_reduce
  canon_tiles x h using (by
    simp only [List.mem_cons, exists_eq_or_imp, Rect.mem_set_unit, Fin.forall_fin_succ, List.not_mem_nil]
    simp
    omega)
  all_goals
    open_payloads
    idx_vars x
    have e1 := h1
    simp at e1
    have e2 := h2
    simp at e2
    pointwise [proj, normed]
    blk_point []

end Cert.Kernel2Ideal.FfnValue
-- ==== Proof.FfnRef.lean ====
module

public import proofs.«01_k».proof.Proof.FfnSpec
public import proofs.«01_k».proof.Proof.Gen.Reference2Ideal.Read

@[expose] public section

set_option maxRecDepth 16384
noncomputable section
open Idealize.ShloMosaic Idealize.ShloMosaic.TcCoe Idealize.SL.Sem
namespace Cert.Reference2Ideal.FfnRef
open Cert.Reference2Ideal Cert.Reference2Ideal.Gen Cert.Reference2Ideal.Read Cert.FfnSpec

variable (x0 : FVec Ideal S16384x1024 .f32) (x1 : FVec Ideal S1024 .f32) (x2 : FVec Ideal S1024x5632 .f32)
  (x3 : FVec Ideal S3x2816 .f32) (x4 : FVec Ideal S2816 .f32) (x5 : FVec Ideal S2816x1024 .f32)

/-- The reference's projection at a row and a column. -/
theorem ref_proj (b : Fin 4) (t : Fin 4096) (f : Fin 5632) :
    val_main_v14 (F := Ideal) x0 x1 x2 (ix3 b t f)
      = proj x0 (fun k => x1 (ix1 k)) x2 ⟨b * 4096 + t, by omega⟩ f := by
  unfold proj
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, normed]

/-- The reference's padded convolution input: two zero rows before the projections of each sequence. -/
theorem ref_gp (b : Fin 4) (s : Fin 4098) (f : Fin 2816) :
    val_main_v18 (F := Ideal) x0 x1 x2 (ix3 b s f)
      = if h : s.val < 2 then 0 else proj x0 (fun k => x1 (ix1 k)) x2 ⟨b * 4096 + (s - 2), by omega⟩ ⟨f, by omega⟩ := by
  pointwise [val_main_v18]
  by_cases h : s.val < 2
  · simp only [dif_pos h]
    pointwise [val_main_v17, val_main_cst_2]
  · simp only [dif_neg h]
    pointwise [val_main_v15]
    exact ref_proj x0 x1 x2 b ⟨s - 2, by omega⟩ ⟨f, by omega⟩

/-- The reference's padded input at a sequence and a row of the padding. -/
def gp (b : Fin 4) (s : Fin 4098) (f : Fin 2816) : EReal :=
  if h : s.val < 2 then 0 else proj x0 (fun k => x1 (ix1 k)) x2 ⟨b * 4096 + (s - 2), by omega⟩ ⟨f, by omega⟩

/-- The reference's gated activation at a row and a column. -/
theorem ref_act (b : Fin 4) (t : Fin 4096) (f : Fin 2816) :
    val_main_v43 (F := Ideal) x0 x1 x2 x3 x4 (ix3 b t f)
      = act (x4 (ix1 f) + gp x0 x1 x2 b ⟨t, by omega⟩ f * x3 (ix2 0 f) + gp x0 x1 x2 b ⟨t + 1, by omega⟩ f * x3 (ix2 1 f)
            + gp x0 x1 x2 b ⟨t + 2, by omega⟩ f * x3 (ix2 2 f))
          (proj x0 (fun k => x1 (ix1 k)) x2 ⟨b * 4096 + t, by omega⟩ ⟨2816 + f, by omega⟩) := by
  pointwise [val_main_v43, val_main_v42, val_main_call0_v5, val_main_call0_v4, val_main_call0_v3, val_main_call0_v2, val_main_call0_v1,
    val_main_call0_v0, val_main_call0_cst, val_main_call0_cst_0, val_main_v41, val_main_v40, val_main_v39, val_main_v38, val_main_v37,
    val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v16, act]
  rw [zero_sub, show (⟨1 + (t : ℕ), by omega⟩ : Fin 4098) = ⟨t + 1, by omega⟩ from Fin.ext (add_comm _ _),
    show (⟨2 + (t : ℕ), by omega⟩ : Fin 4098) = ⟨t + 2, by omega⟩ from Fin.ext (add_comm _ _)]
  rw [ref_gp, ref_gp, ref_gp, ref_proj]
  rfl

/-- The reference's first result at a row and a column. -/
theorem ref_y (b : Fin 4) (t : Fin 4096) (j : Fin 1024) :
    val_main_v46 (F := Ideal) x0 x1 x2 x3 x4 x5 (ix2 ⟨b * 4096 + t, by omega⟩ j)
      = x0 (ix2 ⟨b * 4096 + t, by omega⟩ j) + ∑ f : Fin 2816, val_main_v43 (F := Ideal) x0 x1 x2 x3 x4 (ix3 b t f) * x5 (ix2 f j) := by
  pointwise [val_main_v46, val_main_v45, val_main_v44, val_main_v0]

/-- The reference's second result: the last two rows of the padded input. -/
theorem ref_conv (b : Fin 4) (s : Fin 2) (f : Fin 2816) :
    val_main_v47 (F := Ideal) x0 x1 x2 (ix3 b s f) = proj x0 (fun k => x1 (ix1 k)) x2 ⟨b * 4096 + 4094 + s, by omega⟩ ⟨f, by omega⟩ := by
  pointwise [val_main_v47]
  rw [ref_gp, dif_neg (by simp only; omega)]
  exact congrArg (fun r => proj x0 (fun k => x1 (ix1 k)) x2 r _) (Fin.ext (by simp only; omega))

end Cert.Reference2Ideal.FfnRef
-- ==== Proof.FfnArr.lean ====
module

public import proofs.«01_k».proof.Proof.FfnYA
public import proofs.«01_k».proof.Proof.FfnYB
public import proofs.«01_k».proof.Proof.FfnYC
public import proofs.«01_k».proof.Proof.FfnCarry
public import proofs.«01_k».proof.Proof.FfnRef

@[expose] public section

set_option maxRecDepth 16384
noncomputable section
open Idealize.ShloMosaic Idealize.ShloMosaic.TcCoe Idealize.SL.Sem
namespace Cert.Kernel2Ideal.FfnValue
open Cert.Kernel2Ideal Cert.Kernel2Ideal.Gen Cert.FfnSpec Cert.Reference2Ideal.FfnRef
variable (m : (ℓ : Loc nD τ sig) → Buf (Elt Ideal) ℓ)

/-- Every window's block index at every point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val / 4, 0, 0] :=
  (by decide +kernel : ∀ t : Fin grid0.N, _)

/-- The six arguments, named. -/
abbrev aX (c : Dev nD) : FVec Ideal S16384x1024 .f32 := m ((c : Thread nD τ).loc main_arg0)
abbrev aW (c : Dev nD) : FVec Ideal S1024 .f32 := m ((c : Thread nD τ).loc main_arg1)
abbrev aF (c : Dev nD) : FVec Ideal S1024x5632 .f32 := m ((c : Thread nD τ).loc main_arg2)
abbrev aC (c : Dev nD) : FVec Ideal S3x2816 .f32 := m ((c : Thread nD τ).loc main_arg3)
abbrev aB (c : Dev nD) : FVec Ideal S2816 .f32 := m ((c : Thread nD τ).loc main_arg4)
abbrev aD (c : Dev nD) : FVec Ideal S2816x1024 .f32 := m ((c : Thread nD τ).loc main_arg5)

theorem blk0 (c : Dev nD) (t : Fin cfg0.N) (r k : Fin 1024) :
    (show FVec Ideal S1024x1024 .f32 from iblk m c 0 t) (ix2 r k) = aX m c (ix2 ⟨t * 1024 + r, by have := lt_of_lt_of_eq t.isLt (show cfg0.N = 16 from N_0); omega⟩ k) := by
  blk_point [iblk, V, idx t]
theorem blk1 (c : Dev nD) (t : Fin cfg0.N) (k : Fin 1024) :
    (show FVec Ideal S1x1024 .f32 from iblk m c 1 t) (ix2 0 k) = aW m c (ix1 k) := by
  blk_simp [iblk, idx t]; entry_read; pointwise; blk_ext [idx t]
theorem blk2 (c : Dev nD) (t : Fin cfg0.N) (k : Fin 1024) (f : Fin 5632) :
    (show FVec Ideal S1024x5632 .bf16 from iblk m c 2 t) (ix2 k f) = aF m c (ix2 k f) := by
  blk_simp [iblk, idx t]; entry_read; pointwise; blk_ext [idx t]
theorem blk3 (c : Dev nD) (t : Fin cfg0.N) (k : Fin 3) (f : Fin 2816) :
    (show FVec Ideal S3x2816 .f32 from iblk m c 3 t) (ix2 k f) = aC m c (ix2 k f) := by
  blk_point [iblk, V, idx t]
theorem blk4 (c : Dev nD) (t : Fin cfg0.N) (f : Fin 2816) :
    (show FVec Ideal S1x2816 .f32 from iblk m c 4 t) (ix2 0 f) = aB m c (ix1 f) := by
  blk_simp [iblk, idx t]; entry_read; pointwise; blk_ext [idx t]
theorem blk5 (c : Dev nD) (t : Fin cfg0.N) (f : Fin 2816) (j : Fin 1024) :
    (show FVec Ideal S2816x1024 .bf16 from iblk m c 5 t) (ix2 f j) = aD m c (ix2 f j) := by
  blk_simp [iblk, idx t]; entry_read; pointwise; blk_ext [idx t]

theorem proj_congr {n n' : ℕ} {x : (⟨2, ![n, 1024]⟩ : Shape).Idx → EReal} {x' : (⟨2, ![n', 1024]⟩ : Shape).Idx → EReal} {w w' : Fin 1024 → EReal}
    {wf wf' : (⟨2, ![1024, 5632]⟩ : Shape).Idx → EReal} {r : Fin n} {r' : Fin n'} {f : Fin 5632}
    (hx : ∀ k, x (ix2 r k) = x' (ix2 r' k)) (hw : ∀ k, w k = w' k) (hf : ∀ k, wf (ix2 k f) = wf' (ix2 k f)) :
    proj x w wf r f = proj x' w' wf' r' f := by
  unfold proj normed; simp only [hx, hw, hf]

/-- A tile's projection is the whole input's projection at the tile's rows. -/
theorem tile_proj (c : Dev nD) (t : Fin cfg0.N) (r : Fin 1024) (f : Fin 5632) (R : Fin 16384) (hR : (R : ℕ) = t * 1024 + r) :
    proj (show FVec Ideal S1024x1024 .f32 from iblk m c 0 t) (fun k => (show FVec Ideal S1x1024 .f32 from iblk m c 1 t) (ix2 0 k)) (show FVec Ideal S1024x5632 .bf16 from iblk m c 2 t) r f
      = proj (aX m c) (fun k => aW m c (ix1 k)) (aF m c) R f :=
  proj_congr (fun k => (blk0 m c t r k).trans (congrArg (fun R => aX m c (ix2 R k)) (Fin.ext hR.symm))) (fun k => blk1 m c t k) (fun k => blk2 m c t k f)

theorem conv_comm (a x y z : EReal) : a + x + y + z = a + z + y + x := by ac_rfl

/-- What the point writes as activation is the reference's activation, whatever carry holds the two rows before the tile (zero at a sequence's first tile). -/
theorem tile_act (c : Dev nD) (t : Fin cfg0.N) (cr : FVec Ideal S1x8x2816 .f32) (b : Fin 4) (q : Fin 4) (hb : t.val = 4 * b + q)
    (hcr : ∀ (s : Fin 2) (f : Fin 2816), cr (ix3 0 ⟨6 + s, by omega⟩ f) = gp (aX m c) (aW m c) (aF m c) b ⟨q * 1024 + s, by omega⟩ f) (r : Fin 1024) (f : Fin 2816) :
    tileAct (iblk m c 0 t) (iblk m c 1 t) (iblk m c 2 t) (iblk m c 3 t) (iblk m c 4 t) cr r f
      = Cert.Reference2Ideal.Read.val_main_v43 (F := Ideal) (aX m c) (aW m c) (aF m c) (aC m c) (aB m c) (ix3 b ⟨q * 1024 + r, by omega⟩ f) := by
  rw [ref_act]
  unfold tileAct
  have eg0 : (if h : 6 + r.val < 8 then cr (ix3 0 ⟨6 + r, by omega⟩ f) else
      proj (show FVec Ideal S1024x1024 .f32 from iblk m c 0 t) (fun k => (show FVec Ideal S1x1024 .f32 from iblk m c 1 t) (ix2 0 k)) (show FVec Ideal S1024x5632 .bf16 from iblk m c 2 t) ⟨6 + r - 8, by omega⟩ ⟨f, by omega⟩)
      = gp (aX m c) (aW m c) (aF m c) b ⟨q * 1024 + r, by omega⟩ f := by
    by_cases h : 6 + r.val < 8
    · rw [dif_pos h]; exact hcr ⟨r, by omega⟩ f
    · rw [dif_neg h, gp, dif_neg (by simp only; omega)]
      exact tile_proj m c t _ _ _ (by simp only; omega)
  have eg1 : (if h : 7 + r.val < 8 then cr (ix3 0 ⟨7 + r, by omega⟩ f) else
      proj (show FVec Ideal S1024x1024 .f32 from iblk m c 0 t) (fun k => (show FVec Ideal S1x1024 .f32 from iblk m c 1 t) (ix2 0 k)) (show FVec Ideal S1024x5632 .bf16 from iblk m c 2 t) ⟨7 + r - 8, by omega⟩ ⟨f, by omega⟩)
      = gp (aX m c) (aW m c) (aF m c) b ⟨q * 1024 + r + 1, by omega⟩ f := by
    by_cases h : 7 + r.val < 8
    · rw [dif_pos h]
      refine Eq.trans ?_ ((hcr ⟨1 + r, by omega⟩ f).trans ?_)
      · exact congrArg (fun i => cr (ix3 0 i f)) (Fin.ext (by simp only; omega))
      · exact congrArg (fun i => gp (aX m c) (aW m c) (aF m c) b i f) (Fin.ext (by simp only; omega))
    · rw [dif_neg h, gp, dif_neg (by simp only; omega)]
      exact tile_proj m c t _ _ _ (by simp only; omega)
  have eg2 : proj (show FVec Ideal S1024x1024 .f32 from iblk m c 0 t) (fun k => (show FVec Ideal S1x1024 .f32 from iblk m c 1 t) (ix2 0 k)) (show FVec Ideal S1024x5632 .bf16 from iblk m c 2 t) r ⟨f, by omega⟩
      = gp (aX m c) (aW m c) (aF m c) b ⟨q * 1024 + r + 2, by omega⟩ f := by
    rw [gp, dif_neg (by simp only; omega)]
    exact tile_proj m c t _ _ _ (by simp only; omega)
  have eu := tile_proj m c t r ⟨2816 + f, by omega⟩ ⟨b * 4096 + (q * 1024 + r), by omega⟩ (by simp only; omega)
  refine congrArg₂ act ?_ eu
  unfold conv
  refine Eq.trans ?_ (conv_comm _ _ _ _)
  refine Ideal.add_congr (Ideal.add_congr (Ideal.add_congr (blk4 m c t f) (Ideal.mul_congr eg2 (blk3 m c t 2 f))) (Ideal.mul_congr eg1 (blk3 m c t 1 f))) (Ideal.mul_congr eg0 (blk3 m c t 0 f))

/-- What a point that is not its sequence's last leaves in the carry: the input's last two projected rows of the tile. -/
theorem carry_at (c : Dev nD) (t : Fin cfg0.N) (h1 : ¬ t.val % 4 = 3) (s : Fin 2) (f : Fin 2816) (R : Fin 16384) (hR : (R : ℕ) = t * 1024 + 1022 + s) :
    (outsAt0 m c t.val t.isLt).2.2 (ix3 0 ⟨6 + s, by omega⟩ f) = proj (aX m c) (fun k => aW m c (ix1 k)) (aF m c) R ⟨f, by omega⟩ := by
  by_cases h0 : t.val % 4 = 0
  · rw [carry_first m c t h0 h1 s f]; exact tile_proj m c t _ _ _ (by simp only; omega)
  · rw [carry_mid m c t h0 h1 s f]; exact tile_proj m c t _ _ _ (by simp only; omega)

/-- The first result of a point, at a row and a column of its tile: the reference's at the tile's place. -/
theorem y_at (c : Dev nD) (t : Fin cfg0.N) (r j : Fin 1024) (R : Fin 16384) (hR : (R : ℕ) = t * 1024 + r) :
    (outsAt0 m c t.val t.isLt).1 (ix2 r j)
      = Cert.Reference2Ideal.Read.val_main_v46 (F := Ideal) (aX m c) (aW m c) (aF m c) (aC m c) (aB m c) (aD m c) (ix2 R j) := by
  have hN : t.val < 16 := lt_of_lt_of_eq t.isLt (show cfg0.N = 16 from N_0)
  obtain ⟨b, q, hb⟩ : ∃ (b q : Fin 4), t.val = 4 * b + q := ⟨⟨t.val / 4, by omega⟩, ⟨t.val % 4, by omega⟩, by simp only; omega⟩
  have hlt : (b : ℕ) * 4096 + (q * 1024 + r) < 16384 := by omega
  obtain rfl : R = ⟨b * 4096 + (q * 1024 + r), hlt⟩ := Fin.ext (by simp only; omega)
  refine Eq.trans ?_ (ref_y (aX m c) (aW m c) (aF m c) (aC m c) (aB m c) (aD m c) b ⟨q * 1024 + r, by omega⟩ j).symm
  have ex : (show FVec Ideal S1024x1024 .f32 from iblk m c 0 t) (ix2 r j) = aX m c (ix2 ⟨b * 4096 + (q * 1024 + r), by omega⟩ j) :=
    (blk0 m c t r j).trans (congrArg (fun R => aX m c (ix2 R j)) (Fin.ext (by simp only; omega)))
  have hsum : ∀ cr : FVec Ideal S1x8x2816 .f32,
      (∀ (s : Fin 2) (f : Fin 2816), cr (ix3 0 ⟨6 + s, by omega⟩ f) = gp (aX m c) (aW m c) (aF m c) b ⟨q * 1024 + s, by omega⟩ f) →
      (show FVec Ideal S1024x1024 .f32 from iblk m c 0 t) (ix2 r j)
        + ∑ f : Fin 2816, tileAct (iblk m c 0 t) (iblk m c 1 t) (iblk m c 2 t) (iblk m c 3 t) (iblk m c 4 t) cr r f
          * (show FVec Ideal S2816x1024 .bf16 from iblk m c 5 t) (ix2 f j)
      = aX m c (ix2 ⟨b * 4096 + (q * 1024 + r), by omega⟩ j)
        + ∑ f : Fin 2816, Cert.Reference2Ideal.Read.val_main_v43 (F := Ideal) (aX m c) (aW m c) (aF m c) (aC m c) (aB m c) (ix3 b ⟨q * 1024 + r, by omega⟩ f) * aD m c (ix2 f j) :=
    fun cr hcr => Ideal.add_congr ex (Finset.sum_congr rfl fun f _ => Ideal.mul_congr (tile_act m c t cr b q hb hcr r f) (blk5 m c t f j))
  have hcar : ¬ t.val % 4 = 0 → ∀ (s : Fin 2) (f : Fin 2816),
      (outsAt0 m c (t.val - 1) (Nat.lt_of_le_of_lt (Nat.sub_le _ _) t.isLt)).2.2 (ix3 0 ⟨6 + s, by omega⟩ f)
        = gp (aX m c) (aW m c) (aF m c) b ⟨q * 1024 + s, by omega⟩ f := by
    intro h0 s f
    rw [gp, dif_neg (by simp only; omega)]
    exact carry_at m c ⟨t.val - 1, Nat.lt_of_le_of_lt (Nat.sub_le _ _) t.isLt⟩ (by simp only; omega) s f _ (by simp only; omega)
  by_cases h0 : t.val % 4 = 0
  · rw [y_first m c t h0 (by omega) r j]
    refine hsum _ fun s f => ?_
    rw [gp, dif_pos (by simp only; omega)]
  · by_cases h1 : t.val % 4 = 3
    · rw [y_last m c t h0 h1 r j]; exact hsum _ (hcar h0)
    · rw [y_mid m c t h0 h1 r j]; exact hsum _ (hcar h0)

/-- The first result array after the run is the reference's. -/
theorem final_y (c : Dev nD) : (dats m 0 c).arrAt 6 (cfgs 0).N
    = Cert.Reference2Ideal.Read.val_main_v46 (F := Ideal) (aX m c) (aW m c) (aF m c) (aC m c) (aB m c) (aD m c) := by
  refine (dats m 0 c).arrAt_eq_of_covers 6 _ (by decide +kernel) fun t _ y => ?_
  blk_simp
  rw [after0_6]
  have hN : t.val < 16 := lt_of_lt_of_eq t.isLt (show cfg0.N = 16 from N_0)
  refine Eq.trans ?_ ((y_at m c t (y 0) (y 1) ⟨t * 1024 + y 0, by have : (y 0).val < 1024 := (y 0).isLt; omega⟩ rfl).trans ?_)
  · exact congrArg (outsAt0 m c t.val t.isLt).1 (by blk_ext [idx t])
  · blk_ext [idx t]

/-- The second result array after the run is the reference's. -/
theorem final_conv (c : Dev nD) : (dats m 0 c).arrAt 7 (cfgs 0).N
    = Cert.Reference2Ideal.Read.val_main_v47 (F := Ideal) (aX m c) (aW m c) (aF m c) := by
  refine (dats m 0 c).arrAt_eq_of_covers 7 _ (by decide +kernel) fun t hf y => ?_
  blk_simp
  rw [after0_7]
  have hN : t.val < 16 := lt_of_lt_of_eq t.isLt (show cfg0.N = 16 from N_0)
  have h3 : t.val % 4 = 3 := by
    have e : ∀ t : Fin cfg0.N, (cfg0.win 7).flush t = true → t.val % 4 = 3 := (by decide +kernel : ∀ t : Fin grid0.N, _)
    exact e t hf
  have l1 : (y 1).val < 2 := (y 1).isLt
  refine Eq.trans ?_ ((conv_last m c t (by omega) h3 (y 1) (y 2)).trans ((tile_proj m c t _ _ ⟨(t.val / 4) * 4096 + 4094 + y 1, by omega⟩ (by simp only; omega)).trans
    ((ref_conv (aX m c) (aW m c) (aF m c) ⟨t.val / 4, by omega⟩ (y 1) (y 2)).symm.trans ?_)))
  · exact congrArg (outsAt0 m c t.val t.isLt).2.1 (by blk_ext [idx t])
  · blk_ext [idx t]

end Cert.Kernel2Ideal.FfnValue
-- ==== Proof.InSpec.lean ====
module

public import proofs.«01_k».proof.Proof.FfnSpec

@[expose] public section

set_option maxRecDepth 16384
noncomputable section
open Idealize.ShloMosaic Idealize.ShloMosaic.TcCoe Idealize.SL.Sem
namespace Cert.InSpec
open Cert.FfnSpec

/-- Column `f` of the combined projection of row `r` of the normalised input. -/
def zz {n : ℕ} (x : (⟨2, ![n, 1024]⟩ : Shape).Idx → EReal) (w : Fin 1024 → EReal) (wi : (⟨2, ![1024, 2312]⟩ : Shape).Idx → EReal)
    (r : Fin n) (f : Fin 2312) : EReal :=
  ∑ k : Fin 1024, normed x w r k * wi (ix2 k f)

/-- Entry `d` of a head of 64 columns after its own root-mean-square normalisation and its weight. -/
def headNorm (g : Fin 64 → EReal) (w : EReal) (d : Fin 64) : EReal :=
  g d * Ideal.rsqrt (Ideal.div (∑ e : Fin 64, g e * g e) (Ideal.ofBits .f32 0x42800000#32) + Ideal.ofBits .f32 0x358637BD#32) * w

/-- The logarithm of the logistic function. -/
def logSig (x : EReal) : EReal := min x 0 - Ideal.log1p (Ideal.exp (- (max x (-x))))

end Cert.InSpec
-- ==== Proof.InPoint.lean ====
module

public import proofs.«01_k».proof.Proof.Gen.Kernel3Ideal.Value
public import proofs.«01_k».proof.Proof.InSpec
public import proofs.«01_k».proof.Proof.FfnPoint
public import Idealize.ShloMosaic.Lib.Pipeline.ReadBack

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec
open Cert.Kernel2Ideal.FfnValue (canon_at canon_second)

/-- A load of 256 columns of the normalised tile from column `o`, after the two halves of them were stored: the first half's
    payload, then the second's. -/
theorem h_read {κ : Kind} {sp : Space} {sig : RefSig} (v : View sig κ sp S1024x1024 .bf16) (o o' : ℕ) (ho : o' = o + 128)
    (inb : ∀ a, (![0, o'] : Fin 2 → ℕ) a + (![1024, 128] : Fin 2 → ℕ) a ≤ S1024x1024.size a)
    (inb' : ∀ a, (![0, o] : Fin 2 → ℕ) a + (![1024, 128] : Fin 2 → ℕ) a ≤ S1024x1024.size a)
    (inb'' : ∀ a, (![0, o] : Fin 2 → ℕ) a + (![1024, 256] : Fin 2 → ℕ) a ≤ S1024x1024.size a)
    (B A : FVec Ideal S1024x128 .bf16)
    (L : List (View.Piece (Elt Ideal) S1024x1024 .bf16)) (k : Fin 1024) (t : Fin 256) :
    v.readCov (⟨Rect.unit (s := S1024x1024) ![0, o'] ![1024, 128] inb, B⟩
        :: ⟨Rect.unit (s := S1024x1024) ![0, o] ![1024, 128] inb', A⟩ :: L)
      (Rect.unit (s := S1024x1024) ![0, o] ![1024, 256] inb'').toLoadRect (ix2 k t : S1024x256.Idx)
    = if h : t.val < 128 then A (ix2 k ⟨t, h⟩) else B (ix2 k ⟨t - 128, by omega⟩) := by
  subst ho
  rw [View.readCov_eq_canon']
  beta_reduce
  have e : ∀ a : Fin 2, (((Rect.unit (s := S1024x1024) ![0, o] ![1024, 256] inb'').toLoadRect.idx
      (ix2 k t : S1024x256.Idx)) a : ℕ) = (![k, o + t] : Fin 2 → ℕ) a := by
    intro a
    match a with
    | 0 => simp [LoadRect.idx]
    | 1 => simp [LoadRect.idx]
  generalize (Rect.unit (s := S1024x1024) ![0, o] ![1024, 256] inb'').toLoadRect.idx (ix2 k t : S1024x256.Idx) = y at e ⊢
  have e0 : (y 0 : ℕ) = k := e 0
  have e1 : (y 1 : ℕ) = o + t := e 1
  by_cases h : t.val < 128
  · rw [dif_pos h]
    have hx : ∀ a : Fin 2, (y a : ℕ) = (![0, o] : Fin 2 → ℕ) a + ((ix2 k ⟨t, h⟩ : S1024x128.Idx) a : ℕ) := by
      intro a
      match a with
      | 0 => rw [e0]; show _ = 0 + k.val; omega
      | 1 => rw [e1]; rfl
    have hl : (y 1 : ℕ) < o + 128 := by rw [e1]; omega
    have key := canon_second (S := S1024x1024) (![0, o + 128] : Fin 2 → ℕ) (![1024, 128] : Fin 2 → ℕ) inb B
      (![0, o] : Fin 2 → ℕ) (![1024, 128] : Fin 2 → ℕ) inb' A L y (1 : Fin 2)
    have key2 := key (Or.inl hl) (ix2 k ⟨t, h⟩ : S1024x128.Idx)
    exact key2 hx
  · rw [dif_neg h]
    have hx : ∀ a : Fin 2, (y a : ℕ) = (![0, o + 128] : Fin 2 → ℕ) a + ((ix2 k ⟨t - 128, by omega⟩ : S1024x128.Idx) a : ℕ) := by
      intro a
      match a with
      | 0 => rw [e0]; show _ = 0 + k.val; omega
      | 1 => rw [e1]; show _ = o + 128 + (t.val - 128); omega
    have key := fun L' : List (View.Piece (Elt Ideal) S1024x1024 .bf16) => canon_at (S := S1024x1024) (![0, o + 128] : Fin 2 → ℕ) (![1024, 128] : Fin 2 → ℕ) inb B L' y
    have key2 := fun L' => key L' (ix2 k ⟨t - 128, by omega⟩ : S1024x128.Idx)
    exact key2 _ hx

/-- Column `f` of the tile's projection of its row `r`, with the weight held transposed. -/
def tz (x : FVec Ideal S1024x1024 .f32) (w : FVec Ideal S1x1024 .f32) (wt : FVec Ideal S2432x1024 .bf16) (r : Fin 1024) (f : Fin 2432) : EReal :=
  ∑ k : Fin 1024, wt (ix2 f k) * normed x (fun k => w (ix2 0 k)) r k

end Cert.Kernel3Ideal.InValue
-- ==== Proof.InQm.lean ====
module

public import proofs.«01_k».proof.Proof.InPoint

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec
variable (m : (ℓ : Loc nD τ sig) → Buf (Elt Ideal) ℓ)

/-- The fourth result of a point: the scaled queries of the recurrence. -/
theorem qm_at (c : Dev nD) (t : Fin cfg0.N) (f : Fin 256) (r : Fin 1024) :
    (outsAt0 m c t).2.2.2.1 (ix3 0 f r)
      = tz (iblk m c 0 t) (iblk m c 1 t) (iblk m c 2 t) r ⟨768 + f, by omega⟩ * Ideal.ofBits .f32 0x3E000000#32 := by
  unfold outsAt0
  frame_out
  generalize iblk m c 0 t = y0
  generalize iblk m c 1 t = y1
  generalize iblk m c 2 t = y2
  canon_tiles x h
  all_goals
    open_payloads
    idx_vars x
    pointwise [h_read, tz, normed]
    by_cases hx : (x2 : ℕ) < 128 <;> simp only [hx, dite_true, dite_false, ↓reduceDIte] <;> blk_point []

/-- The fifth result of a point: the keys of the recurrence. -/
theorem km_at (c : Dev nD) (t : Fin cfg0.N) (f : Fin 256) (r : Fin 1024) :
    (outsAt0 m c t).2.2.2.2.1 (ix3 0 f r)
      = tz (iblk m c 0 t) (iblk m c 1 t) (iblk m c 2 t) r ⟨1024 + f, by omega⟩ := by
  unfold outsAt0
  frame_out
  generalize iblk m c 0 t = y0
  generalize iblk m c 1 t = y1
  generalize iblk m c 2 t = y2
  canon_tiles x h
  all_goals
    open_payloads
    idx_vars x
    pointwise [h_read, tz, normed]
    by_cases hx : (x2 : ℕ) < 128 <;> simp only [hx, dite_true, dite_false, ↓reduceDIte] <;> blk_point []

end Cert.Kernel3Ideal.InValue
-- ==== Proof.InVm.lean ====
module

public import proofs.«01_k».proof.Proof.InPoint

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec
variable (m : (ℓ : Loc nD τ sig) → Buf (Elt Ideal) ℓ)

/-- The sixth result of a point: the values of the recurrence. -/
theorem vm_at (c : Dev nD) (t : Fin cfg0.N) (f : Fin 512) (r : Fin 1024) :
    (outsAt0 m c t).2.2.2.2.2.1 (ix3 0 f r)
      = tz (iblk m c 0 t) (iblk m c 1 t) (iblk m c 2 t) r ⟨1280 + f, by omega⟩ := by
  unfold outsAt0
  frame_out
  generalize iblk m c 0 t = y0
  generalize iblk m c 1 t = y1
  generalize iblk m c 2 t = y2
  canon_tiles x h
  all_goals
    open_payloads
    idx_vars x
    pointwise [h_read, tz, normed]
    by_cases hx : (x2 : ℕ) < 128 <;> simp only [hx, dite_true, dite_false, ↓reduceDIte] <;> blk_point []

/-- The seventh result of a point: the output gates of the recurrence. -/
theorem om_at (c : Dev nD) (t : Fin cfg0.N) (f : Fin 512) (r : Fin 1024) :
    (outsAt0 m c t).2.2.2.2.2.2.1 (ix3 0 f r)
      = tz (iblk m c 0 t) (iblk m c 1 t) (iblk m c 2 t) r ⟨1792 + f, by omega⟩ := by
  unfold outsAt0
  frame_out
  generalize iblk m c 0 t = y0
  generalize iblk m c 1 t = y1
  generalize iblk m c 2 t = y2
  canon_tiles x h
  all_goals
    open_payloads
    idx_vars x
    pointwise [h_read, tz, normed]
    by_cases hx : (x2 : ℕ) < 128 <;> simp only [hx, dite_true, dite_false, ↓reduceDIte] <;> blk_point []

end Cert.Kernel3Ideal.InValue
-- ==== Proof.InGt.lean ====
module

public import proofs.«01_k».proof.Proof.InPoint

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec
variable (m : (ℓ : Loc nD τ sig) → Buf (Elt Ideal) ℓ)

/-- A choice between two values by whether a row is among the first four. -/
theorem sel_row (x : Fin 8) (a b : EReal) : Scalar.select (IntOp.cmpi CmpIPredicate.slt (BitVec.ofNat 32 x) 4#32) a b = if x.val < 4 then a else b := by
  have e : IntOp.cmpi CmpIPredicate.slt (BitVec.ofNat 32 x) 4#32 = if x.val < 4 then 1#1 else 0#1 := by revert x; decide
  rw [e]
  by_cases h : x.val < 4 <;> simp [h, Scalar.select]

set_option maxHeartbeats 4000000 in
/-- The eighth result of a point: the input gates, and the logarithms of the forget gates under them. -/
theorem gt_at (c : Dev nD) (t : Fin cfg0.N) (f : Fin 8) (r : Fin 1024) :
    (outsAt0 m c t).2.2.2.2.2.2.2 (ix3 0 f r)
      = if f.val < 4 then tz (iblk m c 0 t) (iblk m c 1 t) (iblk m c 2 t) r ⟨2304 + f, by omega⟩ + (show FVec Ideal S8x1 .f32 from iblk m c 3 t) (ix2 f 0)
        else logSig (tz (iblk m c 0 t) (iblk m c 1 t) (iblk m c 2 t) r ⟨2304 + f, by omega⟩ + (show FVec Ideal S8x1 .f32 from iblk m c 3 t) (ix2 f 0)) := by
  unfold outsAt0
  frame_out
  generalize iblk m c 0 t = y0
  generalize iblk m c 1 t = y1
  generalize iblk m c 2 t = y2
  generalize iblk m c 3 t = y3
  canon_tiles x h
  all_goals
    open_payloads
    idx_vars x
    obtain rfl : f = x1 := Fin.ext (by simpa using h1)
    pointwise [h_read, tz, normed, logSig, sel_row, Ideal.absf_def, zero_sub]
    by_cases hx : (x2 : ℕ) < 128 <;> simp only [hx, dite_true, dite_false, ↓reduceDIte] <;> blk_point []

end Cert.Kernel3Ideal.InValue
-- ==== Proof.InQa.lean ====
module

public import proofs.«01_k».proof.Proof.InPoint

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec
variable (m : (ℓ : Loc nD τ sig) → Buf (Elt Ideal) ℓ)

set_option maxHeartbeats 4000000 in
/-- The first result of a point: the scaled queries of the attention. -/
theorem qa_at (c : Dev nD) (t : Fin cfg0.N) (f : Fin 512) (r : Fin 1024) :
    (outsAt0 m c t).1 (ix3 0 f r)
      = headNorm (fun e => tz (iblk m c 0 t) (iblk m c 1 t) (iblk m c 2 t) r ⟨f / 64 * 64 + e, by omega⟩) ((show FVec Ideal S512x1 .f32 from iblk m c 4 t) (ix2 f 0)) ⟨f % 64, by omega⟩ := by
  unfold outsAt0
  frame_out
  generalize iblk m c 0 t = y0
  generalize iblk m c 1 t = y1
  generalize iblk m c 2 t = y2
  generalize iblk m c 4 t = y4
  canon_tiles x h
  all_goals
    open_payloads
    idx_vars x
    pointwise [h_read, tz, normed, headNorm]
    by_cases hx : (x2 : ℕ) < 128 <;> simp only [hx, dite_true, dite_false, ↓reduceDIte] <;> blk_point []

end Cert.Kernel3Ideal.InValue
-- ==== Proof.InKs.lean ====
module

public import proofs.«01_k».proof.Proof.InPoint

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec
variable (m : (ℓ : Loc nD τ sig) → Buf (Elt Ideal) ℓ)

set_option maxHeartbeats 4000000 in
/-- The second result of a point: the keys of the attention. -/
theorem ks_at (c : Dev nD) (t : Fin cfg0.N) (f : Fin 128) (r : Fin 1024) :
    (outsAt0 m c t).2.1 (ix2 r f)
      = headNorm (fun e => tz (iblk m c 0 t) (iblk m c 1 t) (iblk m c 2 t) r ⟨512 + (f / 64 * 64 + e), by omega⟩) ((show FVec Ideal S128x1 .f32 from iblk m c 5 t) (ix2 f 0)) ⟨f % 64, by omega⟩ := by
  unfold outsAt0
  frame_out
  generalize iblk m c 0 t = y0
  generalize iblk m c 1 t = y1
  generalize iblk m c 2 t = y2
  generalize iblk m c 5 t = y5
  canon_tiles x h
  all_goals
    open_payloads
    idx_vars x
    pointwise [h_read, tz, normed, headNorm]
    by_cases hx : (x0 : ℕ) < 128 <;> simp only [hx, dite_true, dite_false, ↓reduceDIte] <;> blk_point []

end Cert.Kernel3Ideal.InValue
-- ==== Proof.InKv.lean ====
module

public import proofs.«01_k».proof.Proof.InPoint

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec
variable (m : (ℓ : Loc nD τ sig) → Buf (Elt Ideal) ℓ)

set_option maxHeartbeats 4000000 in
/-- The third result of a point: the keys of the attention and its values under them. -/
theorem kv_at (c : Dev nD) (t : Fin cfg0.N) (f : Fin 256) (r : Fin 1024) :
    (outsAt0 m c t).2.2.1 (ix3 0 f r)
      = if h : f.val < 128 then headNorm (fun e => tz (iblk m c 0 t) (iblk m c 1 t) (iblk m c 2 t) r ⟨512 + (f / 64 * 64 + e), by omega⟩) ((show FVec Ideal S128x1 .f32 from iblk m c 5 t) (ix2 ⟨f, h⟩ 0)) ⟨f % 64, by omega⟩
        else tz (iblk m c 0 t) (iblk m c 1 t) (iblk m c 2 t) r ⟨512 + f, by omega⟩ := by
  unfold outsAt0
  frame_out
  generalize iblk m c 0 t = y0
  generalize iblk m c 1 t = y1
  generalize iblk m c 2 t = y2
  generalize iblk m c 5 t = y5
  canon_tiles x h
  all_goals
    open_payloads
    idx_vars x
    have e1 := h1
    simp at e1
    first
      | rw [dif_pos (show (f : ℕ) < 128 by omega)]
      | rw [dif_neg (show ¬ (f : ℕ) < 128 by omega)]
    pointwise [h_read, tz, normed, headNorm]
    by_cases hx : (x2 : ℕ) < 128 <;> simp only [hx, dite_true, dite_false, ↓reduceDIte] <;> blk_point []

end Cert.Kernel3Ideal.InValue
-- ==== Proof.InRef.lean ====
module

public import proofs.«01_k».proof.Proof.InSpec
public import proofs.«01_k».proof.Proof.Gen.Reference3Ideal.Read

@[expose] public section

set_option maxRecDepth 16384
noncomputable section
open Idealize.ShloMosaic Idealize.ShloMosaic.TcCoe Idealize.SL.Sem
namespace Cert.Reference3Ideal.InRef
open Cert.Reference3Ideal Cert.Reference3Ideal.Gen Cert.Reference3Ideal.Read Cert.FfnSpec Cert.InSpec

variable (x0 : FVec Ideal S16384x1024 .f32) (x1 : FVec Ideal S1024 .f32) (x2 : FVec Ideal S1024x2312 .f32)
  (x3 : FVec Ideal S8 .f32) (x4 : FVec Ideal S64 .f32) (x5 : FVec Ideal S64 .f32)

/-- The reference's projection at a row and a column. -/
theorem ref_z (r : Fin 16384) (f : Fin 2312) :
    val_main_v13 (F := Ideal) x0 x1 x2 (ix2 r f) = zz x0 (fun k => x1 (ix1 k)) x2 r f := by
  unfold zz
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, normed]

/-- The reference's queries at a token, a head and an entry of it. -/
theorem ref_q3 (r : Fin 16384) (h : Fin 8) (d : Fin 64) :
    val_main_v35 (F := Ideal) x0 x1 x2 x4 (ix3 r h d)
      = headNorm (fun e => zz x0 (fun k => x1 (ix1 k)) x2 r ⟨h * 64 + e, by omega⟩) (x4 (ix1 d)) d := by
  unfold headNorm
  pointwise [val_main_v35, val_main_v34, val_main_v33, val_main_v32, val_main_v31, val_main_v30, val_main_v29, val_main_v28, val_main_v27,
    val_main_v26, val_main_v25, val_main_v24, val_main_v23, val_main_v22, val_main_v14, val_main_cst_2, val_main_cst_3, val_main_cst_4, ref_z]

/-- The reference's keys at a token, a head and an entry of it. -/
theorem ref_k3 (r : Fin 16384) (h : Fin 2) (d : Fin 64) :
    val_main_v52 (F := Ideal) x0 x1 x2 x5 (ix3 r h d)
      = headNorm (fun e => zz x0 (fun k => x1 (ix1 k)) x2 r ⟨512 + (h * 64 + e), by omega⟩) (x5 (ix1 d)) d := by
  unfold headNorm
  pointwise [val_main_v52, val_main_v51, val_main_v50, val_main_v49, val_main_v48, val_main_v47, val_main_v46, val_main_v45, val_main_v44,
    val_main_v43, val_main_v42, val_main_v41, val_main_v40, val_main_v39, val_main_v15, val_main_cst_6, val_main_cst_7, val_main_cst_8, ref_z]

/-- The first result: the scaled queries, feature by token. -/
theorem ref_qa (b : Fin 16) (f : Fin 512) (t : Fin 1024) :
    val_main_v67 (F := Ideal) x0 x1 x2 x4 (ix3 b f t)
      = headNorm (fun e => zz x0 (fun k => x1 (ix1 k)) x2 ⟨b * 1024 + t, by omega⟩ ⟨f / 64 * 64 + e, by omega⟩) (x4 (ix1 ⟨f % 64, by omega⟩))
          ⟨f % 64, by omega⟩ * Ideal.ofBits .f32 0x3E38AA3B#32 := by
  pointwise [val_main_v67, val_main_v66, val_main_v65, val_main_v38, val_main_v37, val_main_cst_5, val_main_v36, ref_q3]

/-- The second result: the keys, token by feature. -/
theorem ref_ks (r : Fin 16384) (f : Fin 128) :
    val_main_v68 (F := Ideal) x0 x1 x2 x5 (ix2 r f)
      = headNorm (fun e => zz x0 (fun k => x1 (ix1 k)) x2 r ⟨512 + (f / 64 * 64 + e), by omega⟩) (x5 (ix1 ⟨f % 64, by omega⟩))
          ⟨f % 64, by omega⟩ := by
  pointwise [val_main_v68, val_main_v53, ref_k3]

/-- The third result: the keys and under them the values, feature by token. -/
theorem ref_kv (b : Fin 16) (f : Fin 256) (t : Fin 1024) :
    val_main_v71 (F := Ideal) x0 x1 x2 x5 (ix3 b f t)
      = if h : f.val < 128 then headNorm (fun e => zz x0 (fun k => x1 (ix1 k)) x2 ⟨b * 1024 + t, by omega⟩ ⟨512 + (f / 64 * 64 + e), by omega⟩)
          (x5 (ix1 ⟨f % 64, by omega⟩)) ⟨f % 64, by omega⟩
        else zz x0 (fun k => x1 (ix1 k)) x2 ⟨b * 1024 + t, by omega⟩ ⟨512 + f, by omega⟩ := by
  pointwise [val_main_v71, val_main_v70, val_main_v69, val_main_v53, val_main_v16, ref_k3, ref_z]
  by_cases h : f.val < 128
  · simp only [dif_pos h]
  · simp only [dif_neg h]
    exact congrArg (fun g => zz x0 (fun k => x1 (ix1 k)) x2 _ g) (Fin.ext (by simp only; omega))

/-- The fourth result: the scaled queries of the recurrence. -/
theorem ref_qm (b : Fin 16) (f : Fin 256) (t : Fin 1024) :
    val_main_v76 (F := Ideal) x0 x1 x2 (ix3 b f t)
      = zz x0 (fun k => x1 (ix1 k)) x2 ⟨b * 1024 + t, by omega⟩ ⟨768 + f, by omega⟩ * Ideal.ofBits .f32 0x3E000000#32 := by
  pointwise [val_main_v76, val_main_v75, val_main_v74, val_main_v73, val_main_v72, val_main_cst_10, val_main_v17, ref_z]

/-- The fifth result: the keys of the recurrence. -/
theorem ref_km (b : Fin 16) (f : Fin 256) (t : Fin 1024) :
    val_main_v79 (F := Ideal) x0 x1 x2 (ix3 b f t)
      = zz x0 (fun k => x1 (ix1 k)) x2 ⟨b * 1024 + t, by omega⟩ ⟨1024 + f, by omega⟩ := by
  pointwise [val_main_v79, val_main_v78, val_main_v77, val_main_v18, ref_z]

/-- The sixth result: the values of the recurrence. -/
theorem ref_vm (b : Fin 16) (f : Fin 512) (t : Fin 1024) :
    val_main_v82 (F := Ideal) x0 x1 x2 (ix3 b f t)
      = zz x0 (fun k => x1 (ix1 k)) x2 ⟨b * 1024 + t, by omega⟩ ⟨1280 + f, by omega⟩ := by
  pointwise [val_main_v82, val_main_v81, val_main_v80, val_main_v19, ref_z]

/-- The seventh result: the output gates of the recurrence. -/
theorem ref_om (b : Fin 16) (f : Fin 512) (t : Fin 1024) :
    val_main_v85 (F := Ideal) x0 x1 x2 (ix3 b f t)
      = zz x0 (fun k => x1 (ix1 k)) x2 ⟨b * 1024 + t, by omega⟩ ⟨1792 + f, by omega⟩ := by
  pointwise [val_main_v85, val_main_v84, val_main_v83, val_main_v20, ref_z]

/-- The eighth result: the input gates and the logarithms of the forget gates. -/
theorem ref_gt (b : Fin 16) (f : Fin 8) (t : Fin 1024) :
    val_main_v89 (F := Ideal) x0 x1 x2 x3 (ix3 b f t)
      = if f.val < 4 then zz x0 (fun k => x1 (ix1 k)) x2 ⟨b * 1024 + t, by omega⟩ ⟨2304 + f, by omega⟩ + x3 (ix1 f)
        else logSig (zz x0 (fun k => x1 (ix1 k)) x2 ⟨b * 1024 + t, by omega⟩ ⟨2304 + f, by omega⟩ + x3 (ix1 f)) := by
  unfold logSig
  pointwise [val_main_v89, val_main_v88, val_main_v87, val_main_v86, val_main_v64, val_main_v63, val_main_v62, val_main_v61, val_main_v60,
    val_main_v59, val_main_v58, val_main_cst_9, val_main_v57, val_main_v56, val_main_v55, val_main_v54, val_main_v21, ref_z]
  by_cases h : f.val < 4
  · simp only [h]; rfl
  · simp only [h]
    have e : (⟨4 + (f.val - 4), by omega⟩ : Fin 8) = f := Fin.ext (by simp only; omega)
    have e' : (⟨2304 + (4 + (f.val - 4)), by omega⟩ : Fin 2312) = ⟨2304 + f, by omega⟩ := Fin.ext (by simp only; omega)
    simp only [e, e', Ideal.absf_def]
    rw [dif_neg not_false, if_neg not_false]

end Cert.Reference3Ideal.InRef
-- ==== Proof.InArr.lean ====
module

public import proofs.«01_k».proof.Proof.InQm
public import proofs.«01_k».proof.Proof.InVm
public import proofs.«01_k».proof.Proof.InGt
public import proofs.«01_k».proof.Proof.InQa
public import proofs.«01_k».proof.Proof.InKs
public import proofs.«01_k».proof.Proof.InKv
public import proofs.«01_k».proof.Proof.InRef

@[expose] public section

set_option maxRecDepth 16384
noncomputable section
open Idealize.ShloMosaic Idealize.ShloMosaic.TcCoe Idealize.SL.Sem
namespace Cert.Kernel3Ideal.InValue
open Cert.Kernel3Ideal Cert.Kernel3Ideal.Gen Cert.FfnSpec Cert.InSpec Cert.Reference3Ideal.InRef
variable (m : (ℓ : Loc nD τ sig) → Buf (Elt Ideal) ℓ)

/-- Every window's block index at every point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0, 0] ∧ win0_7.index t = ![t.val, 0]
    ∧ win0_8.index t = ![t.val, 0, 0] ∧ win0_9.index t = ![t.val, 0, 0] ∧ win0_10.index t = ![t.val, 0, 0] ∧ win0_11.index t = ![t.val, 0, 0]
    ∧ win0_12.index t = ![t.val, 0, 0] ∧ win0_13.index t = ![t.val, 0, 0] :=
  (by decide +kernel : ∀ t : Fin grid0.N, _)

/-- The six arguments, named. -/
abbrev aX (c : Dev nD) : FVec Ideal S16384x1024 .f32 := m ((c : Thread nD τ).loc main_arg0)
abbrev aN (c : Dev nD) : FVec Ideal S1024 .f32 := m ((c : Thread nD τ).loc main_arg1)
abbrev aI (c : Dev nD) : FVec Ideal S1024x2312 .f32 := m ((c : Thread nD τ).loc main_arg2)
abbrev aG (c : Dev nD) : FVec Ideal S8 .f32 := m ((c : Thread nD τ).loc main_arg3)
abbrev aQ (c : Dev nD) : FVec Ideal S64 .f32 := m ((c : Thread nD τ).loc main_arg4)
abbrev aK (c : Dev nD) : FVec Ideal S64 .f32 := m ((c : Thread nD τ).loc main_arg5)

/-- The arrays the host line hands to the call, from the arguments. -/
theorem V_v3 (c : Dev nD) : V m c main_v3 = shapeCast S1x1024 (aN m c) shapeCasts_S1024_S1x1024 := rfl
theorem V_v4 (c : Dev nD) : V m c main_v4 = shapeCast S8x1 (aG m c) shapeCasts_S8_S8x1 := rfl
theorem V_v2 (c : Dev nD) : V m c main_v2 = pad S2432x1024 ![0, 0] ![120, 0] ![0, 0]
    (truncf (F := Ideal) .bf16 (transpose S2312x1024 [1, 0] (aI m c) transposes_S1024x2312_S2312x1024_1_0) bitsLt_bf16_f32)
    (sitofp (F := Ideal) .bf16 (constantI S_ 32 0#32)) pads_S2312x1024_S2432x1024_01200_000 h_S_ := rfl
theorem V_v10 (c : Dev nD) : V m c main_v10 = shapeCast S512x1 (mulf (F := Ideal) (φ := .f32)
    (shapeCast S512 (broadcastInDim S8x64 ![0, 1] bcast_S1x64_S8x64_0_1 (shapeCast S1x64 (aQ m c) shapeCasts_S64_S1x64)) shapeCasts_S8x64_S512)
    (broadcastInDim S512 ![] bcast_S_S512 (constant (F := Ideal) S_ .f32 0x3E38AA3B#32))) shapeCasts_S512_S512x1 := rfl
theorem V_v14 (c : Dev nD) : V m c main_v14 = shapeCast S128x1
    (shapeCast S128 (broadcastInDim S2x64 ![0, 1] bcast_S1x64_S2x64_0_1 (shapeCast S1x64 (aK m c) shapeCasts_S64_S1x64)) shapeCasts_S2x64_S128) shapeCasts_S128_S128x1 := rfl

theorem blk0 (c : Dev nD) (t : Fin cfg0.N) (r k : Fin 1024) :
    (show FVec Ideal S1024x1024 .f32 from iblk m c 0 t) (ix2 r k) = aX m c (ix2 ⟨t * 1024 + r, by have := lt_of_lt_of_eq t.isLt (show cfg0.N = 16 from N_0); omega⟩ k) := by
  blk_point [iblk, V, idx t]
theorem blk1 (c : Dev nD) (t : Fin cfg0.N) (k : Fin 1024) :
    (show FVec Ideal S1x1024 .f32 from iblk m c 1 t) (ix2 0 k) = aN m c (ix1 k) := by
  blk_simp [iblk, idx t]
  refine (congrFun (V_v3 m c) _).trans ?_
  pointwise; blk_ext [idx t]
theorem blk2 (c : Dev nD) (t : Fin cfg0.N) (f : Fin 2312) (k : Fin 1024) :
    (show FVec Ideal S2432x1024 .bf16 from iblk m c 2 t) (ix2 ⟨f, by omega⟩ k) = aI m c (ix2 k f) := by
  blk_simp [iblk, idx t]
  refine (congrFun (V_v2 m c) _).trans ?_
  pointwise
  split
  · blk_ext [idx t]
  · rename_i h
    refine absurd ?_ h
    have e : (((View.whole main_v2).slice (win0_2.rect t)).emb (ix2 ⟨f, by omega⟩ k : S2432x1024.Idx) 0 : ℕ) = f := by
      blk_point [idx t]
    exact lt_of_eq_of_lt e f.isLt
theorem blk3 (c : Dev nD) (t : Fin cfg0.N) (f : Fin 8) :
    (show FVec Ideal S8x1 .f32 from iblk m c 3 t) (ix2 f 0) = aG m c (ix1 f) := by
  blk_simp [iblk, idx t]
  refine (congrFun (V_v4 m c) _).trans ?_
  pointwise; blk_ext [idx t]
theorem blk4 (c : Dev nD) (t : Fin cfg0.N) (f : Fin 512) :
    (show FVec Ideal S512x1 .f32 from iblk m c 4 t) (ix2 f 0) = aQ m c (ix1 ⟨f % 64, by omega⟩) * Ideal.ofBits .f32 0x3E38AA3B#32 := by
  blk_simp [iblk, idx t]
  refine (congrFun (V_v10 m c) _).trans ?_
  pointwise; blk_ext [idx t]
theorem blk5 (c : Dev nD) (t : Fin cfg0.N) (f : Fin 128) :
    (show FVec Ideal S128x1 .f32 from iblk m c 5 t) (ix2 f 0) = aK m c (ix1 ⟨f % 64, by omega⟩) := by
  blk_simp [iblk, idx t]
  refine (congrFun (V_v14 m c) _).trans ?_
  pointwise; blk_ext [idx t]

/-- A tile's projection is the whole input's projection at the tile's rows. -/
theorem tile_z (c : Dev nD) (t : Fin cfg0.N) (r : Fin 1024) (f : Fin 2312) (R : Fin 16384) (hR : (R : ℕ) = t * 1024 + r) :
    tz (iblk m c 0 t) (iblk m c 1 t) (iblk m c 2 t) r ⟨f, by omega⟩ = zz (aX m c) (fun k => aN m c (ix1 k)) (aI m c) R f := by
  have hx : ∀ k, (show FVec Ideal S1024x1024 .f32 from iblk m c 0 t) (ix2 r k) = aX m c (ix2 R k) :=
    fun k => (blk0 m c t r k).trans (congrArg (fun R => aX m c (ix2 R k)) (Fin.ext hR.symm))
  unfold tz zz
  refine Finset.sum_congr rfl fun k _ => (Ideal.mul_congr (blk2 m c t f k) ?_).trans (mul_comm _ _)
  unfold normed
  simp only [hx]
  exact Ideal.mul_congr rfl (blk1 m c t k)

/-- The fourth result array after the run is the reference's. -/
theorem final_qm (c : Dev nD) : (dats m 0 c).arrAt 9 (cfgs 0).N
    = Cert.Reference3Ideal.Read.val_main_v76 (F := Ideal) (aX m c) (aN m c) (aI m c) := by
  refine (dats m 0 c).arrAt_eq_of_covers 9 _ (by decide +kernel) fun t _ y => ?_
  blk_simp
  rw [after0_9]
  have hN : t.val < 16 := lt_of_lt_of_eq t.isLt (show cfg0.N = 16 from N_0)
  have l1 : (y 1).val < 256 := (y 1).isLt
  have l2 : (y 2).val < 1024 := (y 2).isLt
  refine Eq.trans ?_ ((qm_at m c t (y 1) (y 2)).trans ((Ideal.mul_congr (tile_z m c t (y 2) ⟨768 + y 1, by omega⟩ ⟨t * 1024 + y 2, by omega⟩ rfl) rfl).trans
    ((ref_qm (aX m c) (aN m c) (aI m c) ⟨t, hN⟩ (y 1) (y 2)).symm.trans ?_)))
  · exact congrArg (outsAt0 m c t).2.2.2.1 (by blk_ext [idx t])
  · blk_ext [idx t]

/-- The fifth result array after the run is the reference's. -/
theorem final_km (c : Dev nD) : (dats m 0 c).arrAt 10 (cfgs 0).N
    = Cert.Reference3Ideal.Read.val_main_v79 (F := Ideal) (aX m c) (aN m c) (aI m c) := by
  refine (dats m 0 c).arrAt_eq_of_covers 10 _ (by decide +kernel) fun t _ y => ?_
  blk_simp
  rw [after0_10]
  have hN : t.val < 16 := lt_of_lt_of_eq t.isLt (show cfg0.N = 16 from N_0)
  have l1 : (y 1).val < 256 := (y 1).isLt
  have l2 : (y 2).val < 1024 := (y 2).isLt
  refine Eq.trans ?_ ((km_at m c t (y 1) (y 2)).trans ((tile_z m c t (y 2) ⟨1024 + y 1, by omega⟩ ⟨t * 1024 + y 2, by omega⟩ rfl).trans
    ((ref_km (aX m c) (aN m c) (aI m c) ⟨t, hN⟩ (y 1) (y 2)).symm.trans ?_)))
  · exact congrArg (outsAt0 m c t).2.2.2.2.1 (by blk_ext [idx t])
  · blk_ext [idx t]

/-- The sixth result array after the run is the reference's. -/
theorem final_vm (c : Dev nD) : (dats m 0 c).arrAt 11 (cfgs 0).N
    = Cert.Reference3Ideal.Read.val_main_v82 (F := Ideal) (aX m c) (aN m c) (aI m c) := by
  refine (dats m 0 c).arrAt_eq_of_covers 11 _ (by decide +kernel) fun t _ y => ?_
  blk_simp
  rw [after0_11]
  have hN : t.val < 16 := lt_of_lt_of_eq t.isLt (show cfg0.N = 16 from N_0)
  have l1 : (y 1).val < 512 := (y 1).isLt
  have l2 : (y 2).val < 1024 := (y 2).isLt
  refine Eq.trans ?_ ((vm_at m c t (y 1) (y 2)).trans ((tile_z m c t (y 2) ⟨1280 + y 1, by omega⟩ ⟨t * 1024 + y 2, by omega⟩ rfl).trans
    ((ref_vm (aX m c) (aN m c) (aI m c) ⟨t, hN⟩ (y 1) (y 2)).symm.trans ?_)))
  · exact congrArg (outsAt0 m c t).2.2.2.2.2.1 (by blk_ext [idx t])
  · blk_ext [idx t]

/-- The seventh result array after the run is the reference's. -/
theorem final_om (c : Dev nD) : (dats m 0 c).arrAt 12 (cfgs 0).N
    = Cert.Reference3Ideal.Read.val_main_v85 (F := Ideal) (aX m c) (aN m c) (aI m c) := by
  refine (dats m 0 c).arrAt_eq_of_covers 12 _ (by decide +kernel) fun t _ y => ?_
  blk_simp
  rw [after0_12]
  have hN : t.val < 16 := lt_of_lt_of_eq t.isLt (show cfg0.N = 16 from N_0)
  have l1 : (y 1).val < 512 := (y 1).isLt
  have l2 : (y 2).val < 1024 := (y 2).isLt
  refine Eq.trans ?_ ((om_at m c t (y 1) (y 2)).trans ((tile_z m c t (y 2) ⟨1792 + y 1, by omega⟩ ⟨t * 1024 + y 2, by omega⟩ rfl).trans
    ((ref_om (aX m c) (aN m c) (aI m c) ⟨t, hN⟩ (y 1) (y 2)).symm.trans ?_)))
  · exact congrArg (outsAt0 m c t).2.2.2.2.2.2.1 (by blk_ext [idx t])
  · blk_ext [idx t]

/-- A head's normalisation depends on its columns and its weight only. -/
theorem headNorm_congr {g g' : Fin 64 → EReal} {w w' : EReal} (d : Fin 64) (hg : ∀ e, g e = g' e) (hw : w = w') : headNorm g w d = headNorm g' w' d := by
  rw [funext hg, hw]
/-- A factor in the weight may be applied last. -/
theorem headNorm_mul (g : Fin 64 → EReal) (w k : EReal) (d : Fin 64) : headNorm g (w * k) d = headNorm g w d * k := by
  unfold headNorm; rw [mul_assoc, mul_assoc, mul_assoc]

/-- The first result array after the run is the reference's. -/
theorem final_qa (c : Dev nD) : (dats m 0 c).arrAt 6 (cfgs 0).N
    = Cert.Reference3Ideal.Read.val_main_v67 (F := Ideal) (aX m c) (aN m c) (aI m c) (aQ m c) := by
  refine (dats m 0 c).arrAt_eq_of_covers 6 _ (by decide +kernel) fun t _ y => ?_
  blk_simp
  rw [after0_6]
  have hN : t.val < 16 := lt_of_lt_of_eq t.isLt (show cfg0.N = 16 from N_0)
  have l1 : (y 1).val < 512 := (y 1).isLt
  have l2 : (y 2).val < 1024 := (y 2).isLt
  refine Eq.trans ?_ ((qa_at m c t (y 1) (y 2)).trans (((headNorm_congr _ (fun e => tile_z m c t (y 2) ⟨(y 1 : ℕ) / 64 * 64 + e, by omega⟩ ⟨t * 1024 + y 2, by omega⟩ rfl) (blk4 m c t (y 1))).trans (headNorm_mul _ _ _ _)).trans
    ((ref_qa (aX m c) (aN m c) (aI m c) (aQ m c) ⟨t, hN⟩ (y 1) (y 2)).symm.trans ?_)))
  · exact congrArg (outsAt0 m c t).1 (by blk_ext [idx t])
  · blk_ext [idx t]

/-- The second result array after the run is the reference's. -/
theorem final_ks (c : Dev nD) : (dats m 0 c).arrAt 7 (cfgs 0).N
    = Cert.Reference3Ideal.Read.val_main_v68 (F := Ideal) (aX m c) (aN m c) (aI m c) (aK m c) := by
  refine (dats m 0 c).arrAt_eq_of_covers 7 _ (by decide +kernel) fun t _ y => ?_
  blk_simp
  rw [after0_7]
  have hN : t.val < 16 := lt_of_lt_of_eq t.isLt (show cfg0.N = 16 from N_0)
  have l0 : (y 0).val < 1024 := (y 0).isLt
  have l1 : (y 1).val < 128 := (y 1).isLt
  refine Eq.trans ?_ ((ks_at m c t (y 1) (y 0)).trans ((headNorm_congr _ (fun e => tile_z m c t (y 0) ⟨512 + ((y 1 : ℕ) / 64 * 64 + e), by omega⟩ ⟨t * 1024 + y 0, by omega⟩ rfl) (blk5 m c t (y 1))).trans
    ((ref_ks (aX m c) (aN m c) (aI m c) (aK m c) ⟨t * 1024 + y 0, by omega⟩ (y 1)).symm.trans ?_)))
  · exact congrArg (outsAt0 m c t).2.1 (by blk_ext [idx t])
  · blk_ext [idx t]

/-- The third result array after the run is the reference's. -/
theorem final_kv (c : Dev nD) : (dats m 0 c).arrAt 8 (cfgs 0).N
    = Cert.Reference3Ideal.Read.val_main_v71 (F := Ideal) (aX m c) (aN m c) (aI m c) (aK m c) := by
  refine (dats m 0 c).arrAt_eq_of_covers 8 _ (by decide +kernel) fun t _ y => ?_
  blk_simp
  rw [after0_8]
  have hN : t.val < 16 := lt_of_lt_of_eq t.isLt (show cfg0.N = 16 from N_0)
  have l1 : (y 1).val < 256 := (y 1).isLt
  have l2 : (y 2).val < 1024 := (y 2).isLt
  refine Eq.trans ?_ ((kv_at m c t (y 1) (y 2)).trans ((dite_congr rfl (fun h => headNorm_congr _ (fun e => tile_z m c t (y 2) ⟨512 + ((y 1 : ℕ) / 64 * 64 + e), by omega⟩ ⟨t * 1024 + y 2, by omega⟩ rfl) (blk5 m c t ⟨y 1, h⟩)) (fun _ => tile_z m c t (y 2) ⟨512 + y 1, by omega⟩ ⟨t * 1024 + y 2, by omega⟩ rfl)).trans
    ((ref_kv (aX m c) (aN m c) (aI m c) (aK m c) ⟨t, hN⟩ (y 1) (y 2)).symm.trans ?_)))
  · exact congrArg (outsAt0 m c t).2.2.1 (by blk_ext [idx t])
  · blk_ext [idx t]

/-- The eighth result array after the run is the reference's. -/
theorem final_gt (c : Dev nD) : (dats m 0 c).arrAt 13 (cfgs 0).N
    = Cert.Reference3Ideal.Read.val_main_v89 (F := Ideal) (aX m c) (aN m c) (aI m c) (aG m c) := by
  refine (dats m 0 c).arrAt_eq_of_covers 13 _ (by decide +kernel) fun t _ y => ?_
  blk_simp
  rw [after0_13]
  have hN : t.val < 16 := lt_of_lt_of_eq t.isLt (show cfg0.N = 16 from N_0)
  have l1 : (y 1).val < 8 := (y 1).isLt
  have l2 : (y 2).val < 1024 := (y 2).isLt
  refine Eq.trans ?_ ((gt_at m c t (y 1) (y 2)).trans ((ite_congr rfl (fun _ => (Ideal.add_congr (tile_z m c t (y 2) ⟨2304 + y 1, by omega⟩ ⟨t * 1024 + y 2, by omega⟩ rfl) (blk3 m c t (y 1)))) (fun _ => congrArg logSig (Ideal.add_congr (tile_z m c t (y 2) ⟨2304 + y 1, by omega⟩ ⟨t * 1024 + y 2, by omega⟩ rfl) (blk3 m c t (y 1))))).trans
    ((ref_gt (aX m c) (aN m c) (aI m c) (aG m c) ⟨t, hN⟩ (y 1) (y 2)).symm.trans ?_)))
  · exact congrArg (outsAt0 m c t).2.2.2.2.2.2.2 (by blk_ext [idx t])
  · blk_ext [idx t]

end Cert.Kernel3Ideal.InValue
-- ==== Proof.SmpPoint.lean ====
module

public import proofs.«01_k».proof.Proof.Gen.Kernel4Ideal.Value
public import proofs.«01_k».proof.Proof.FfnPoint

@[expose] public section

set_option maxRecDepth 16384
noncomputable section
open Idealize.ShloMosaic Idealize.ShloMosaic.TcCoe Idealize.SL.Sem
namespace Cert.Kernel4Ideal.SmpValue
open Cert.Kernel4Ideal Cert.Kernel4Ideal.Gen Cert.FfnSpec
open Cert.Kernel2Ideal.FfnValue (canon_at canon_second)

/-- A load of eight rows of every sequence of a slot of the convolution buffer from row `o`, after the history's two rows and the
    tile's eight rows were stored there: the history's rows come first, then the tile's. -/
theorem gbuf_read {κ : Kind} {sp : Space} {sig : RefSig} (v : View sig κ sp S2x64x16x256 .f32) (s o : ℕ)
    (inb : ∀ a, (![s, 0, 8, 0] : Fin 4 → ℕ) a + (![1, 64, 8, 256] : Fin 4 → ℕ) a ≤ S2x64x16x256.size a)
    (inb' : ∀ a, (![s, 0, 6, 0] : Fin 4 → ℕ) a + (![1, 64, 2, 256] : Fin 4 → ℕ) a ≤ S2x64x16x256.size a)
    (inb'' : ∀ a, (![s, 0, o, 0] : Fin 4 → ℕ) a + (![1, 64, 8, 256] : Fin 4 → ℕ) a ≤ S2x64x16x256.size a)
    (B : FVec Ideal S1x64x8x256 .f32) (A : FVec Ideal S1x64x2x256 .f32)
    (L : List (View.Piece (Elt Ideal) S2x64x16x256 .f32)) (b : Fin 64) (r : Fin 8) (q : Fin 256) (ho : 6 ≤ o ∧ o ≤ 8) :
    v.readCov (⟨Rect.unit (s := S2x64x16x256) ![s, 0, 8, 0] ![1, 64, 8, 256] inb, B⟩
        :: ⟨Rect.unit (s := S2x64x16x256) ![s, 0, 6, 0] ![1, 64, 2, 256] inb', A⟩ :: L)
      (Rect.unit (s := S2x64x16x256) ![s, 0, o, 0] ![1, 64, 8, 256] inb'').toLoadRect (ix4 0 b r q : S1x64x8x256.Idx)
    = if h : o + r.val < 8 then A (ix4 0 b ⟨o + r - 6, by omega⟩ q) else B (ix4 0 b ⟨o + r - 8, by omega⟩ q) := by
  rw [View.readCov_eq_canon']
  beta_reduce
  have e : ∀ a : Fin 4, (((Rect.unit (s := S2x64x16x256) ![s, 0, o, 0] ![1, 64, 8, 256] inb'').toLoadRect.idx
      (ix4 0 b r q : S1x64x8x256.Idx)) a : ℕ) = (![s, b, o + r, q] : Fin 4 → ℕ) a := by
    intro a
    match a with
    | 0 => simp [LoadRect.idx]
    | 1 => simp [LoadRect.idx]
    | 2 => simp [LoadRect.idx]
    | 3 => simp [LoadRect.idx]
  generalize (Rect.unit (s := S2x64x16x256) ![s, 0, o, 0] ![1, 64, 8, 256] inb'').toLoadRect.idx (ix4 0 b r q : S1x64x8x256.Idx) = y at e ⊢
  have e0 : (y 0 : ℕ) = s := e 0
  have e1 : (y 1 : ℕ) = b := e 1
  have e2 : (y 2 : ℕ) = o + r := e 2
  have e3 : (y 3 : ℕ) = q := e 3
  by_cases h : o + r.val < 8
  · rw [dif_pos h]
    have hx : ∀ a : Fin 4, (y a : ℕ) = (![s, 0, 6, 0] : Fin 4 → ℕ) a + ((ix4 0 b ⟨o + r - 6, by omega⟩ q : S1x64x2x256.Idx) a : ℕ) := by
      intro a
      match a with
      | 0 => exact e0
      | 1 => rw [e1]; show _ = 0 + b.val; omega
      | 2 => rw [e2]; show _ = 6 + (o + r.val - 6); omega
      | 3 => rw [e3]; show _ = 0 + q.val; omega
    have hl : (y 2 : ℕ) < 8 := by rw [e2]; exact h
    have key := canon_second (S := S2x64x16x256) (![s, 0, 8, 0] : Fin 4 → ℕ) (![1, 64, 8, 256] : Fin 4 → ℕ) inb B
      (![s, 0, 6, 0] : Fin 4 → ℕ) (![1, 64, 2, 256] : Fin 4 → ℕ) inb' A L y (2 : Fin 4)
    have key2 := key (Or.inl hl) (ix4 0 b ⟨o + r - 6, by omega⟩ q : S1x64x2x256.Idx)
    have key3 := key2 hx
    exact key3
  · rw [dif_neg h]
    have hx : ∀ a : Fin 4, (y a : ℕ) = (![s, 0, 8, 0] : Fin 4 → ℕ) a + ((ix4 0 b ⟨o + r - 8, by omega⟩ q : S1x64x8x256.Idx) a : ℕ) := by
      intro a
      match a with
      | 0 => exact e0
      | 1 => rw [e1]; show _ = 0 + b.val; omega
      | 2 => rw [e2]; show _ = 8 + (o + r.val - 8); omega
      | 3 => rw [e3]; show _ = 0 + q.val; omega
    have key := fun L' : List (View.Piece (Elt Ideal) S2x64x16x256 .f32) => canon_at (S := S2x64x16x256) (![s, 0, 8, 0] : Fin 4 → ℕ) (![1, 64, 8, 256] : Fin 4 → ℕ) inb B L' y
    have key2 := fun L' => key L' (ix4 0 b ⟨o + r - 8, by omega⟩ q : S1x64x8x256.Idx)
    exact key2 _ hx

/-- What the tile's activation is at a row and a column, from the tile's blocks. -/
def tileAct (x : FVec Ideal S512x1024 .f32) (hi : FVec Ideal S64x2x2816 .f32) (w : FVec Ideal S1x1024 .f32) (wf : FVec Ideal S1024x5632 .bf16)
    (cw : FVec Ideal S3x2816 .f32) (cb : FVec Ideal S1x2816 .f32) (r : Fin 512) (f : Fin 2816) : EReal :=
  act (conv (cb (ix2 0 f)) (cw (ix2 0 f)) (cw (ix2 1 f)) (cw (ix2 2 f))
      (if h : 6 + r.val % 8 < 8 then hi (ix3 ⟨r / 8, by omega⟩ ⟨6 + r % 8 - 6, by omega⟩ f)
        else proj x (fun k => w (ix2 0 k)) wf ⟨r / 8 * 8 + (6 + r % 8 - 8), by omega⟩ ⟨f, by omega⟩)
      (if h : 7 + r.val % 8 < 8 then hi (ix3 ⟨r / 8, by omega⟩ ⟨7 + r % 8 - 6, by omega⟩ f)
        else proj x (fun k => w (ix2 0 k)) wf ⟨r / 8 * 8 + (7 + r % 8 - 8), by omega⟩ ⟨f, by omega⟩)
      (proj x (fun k => w (ix2 0 k)) wf r ⟨f, by omega⟩))
    (proj x (fun k => w (ix2 0 k)) wf r ⟨2816 + f, by omega⟩)

variable (m : (ℓ : Loc nD τ sig) → Buf (Elt Ideal) ℓ)

set_option maxHeartbeats 4000000 in
/-- The second result of a point: the last two projected rows of each of its sequences. -/
theorem conv_at (c : Dev nD) (t : Fin cfg0.N) (b : Fin 64) (s : Fin 2) (f : Fin 2816) :
    (outsAt0 m c t).2 (ix3 b s f) = proj (show FVec Ideal S512x1024 .f32 from iblk m c 0 t) (fun k => (show FVec Ideal S1x1024 .f32 from iblk m c 2 t) (ix2 0 k))
      (show FVec Ideal S1024x5632 .bf16 from iblk m c 3 t) ⟨b * 8 + (6 + s), by omega⟩ ⟨f, by omega⟩ := by
  unfold outsAt0
  frame_out
  generalize iblk m c 0 t = y0
  generalize iblk m c 2 t = y2
  generalize iblk m c 3 t = y3
  canon_tiles x h
  all_goals
    open_payloads
    idx_vars x
    pointwise [proj, normed]
    blk_point []

end Cert.Kernel4Ideal.SmpValue
-- ==== Proof.SmpY.lean ====
module

public import proofs.«01_k».proof.Proof.SmpPoint

@[expose] public section

set_option maxRecDepth 16384
noncomputable section
open Idealize.ShloMosaic Idealize.ShloMosaic.TcCoe Idealize.SL.Sem
namespace Cert.Kernel4Ideal.SmpValue
open Cert.Kernel4Ideal Cert.Kernel4Ideal.Gen Cert.FfnSpec
variable (m : (ℓ : Loc nD τ sig) → Buf (Elt Ideal) ℓ)

set_option maxHeartbeats 4000000 in
/-- The first result of a point: the row plus the down-projected activation. -/
theorem y_at (c : Dev nD) (t : Fin cfg0.N) (r : Fin 512) (j : Fin 1024) :
   (outsAt0 m c t).1 (ix2 r j) = (show FVec Ideal S512x1024 .f32 from iblk m c 0 t) (ix2 r j)
     + ∑ f : Fin 2816, tileAct (iblk m c 0 t) (iblk m c 1 t) (iblk m c 2 t) (iblk m c 3 t) (iblk m c 4 t) (iblk m c 5 t) r f
       * (show FVec Ideal S2816x1024 .bf16 from iblk m c 6 t) (ix2 f j) := by
  unfold outsAt0
  frame_out
  pointwise [k0_pay96]
  refine Ideal.add_congr rfl (Finset.sum_congr rfl fun f _ => Ideal.mul_congr ?_ rfl)
  rw [View.readCov_eq_canon']
  generalize iblk m c 0 t = y0
  generalize iblk m c 1 t = y1
  generalize iblk m c 2 t = y2
  generalize iblk m c 3 t = y3
  generalize iblk m c 4 t = y4
  generalize iblk m c 5 t = y5
  beta_reduce
  canon_tiles x h
  all_goals
    open_payloads
    idx_vars x
    have e0 : (r : ℕ) = x0 := by simpa using h0
    obtain rfl : r = x0 := Fin.ext e0
    have e1 := h1
    simp at e1
    pointwise [gbuf_read, tileAct, act, conv, proj, normed]
    blk_point []

end Cert.Kernel4Ideal.SmpValue
-- ==== Proof.SmpRef.lean ====
module

public import proofs.«01_k».proof.Proof.FfnSpec
public import proofs.«01_k».proof.Proof.Gen.Reference4Ideal.Read

@[expose] public section

set_option maxRecDepth 16384
noncomputable section
open Idealize.ShloMosaic Idealize.ShloMosaic.TcCoe Idealize.SL.Sem
namespace Cert.Reference4Ideal.SmpRef
open Cert.Reference4Ideal Cert.Reference4Ideal.Gen Cert.Reference4Ideal.Read Cert.FfnSpec

variable (x0 : FVec Ideal S1024x1024 .f32) (x1 : FVec Ideal S128x2x2816 .f32) (x2 : FVec Ideal S1024 .f32) (x3 : FVec Ideal S1024x5632 .f32)
  (x4 : FVec Ideal S3x2816 .f32) (x5 : FVec Ideal S2816 .f32) (x6 : FVec Ideal S2816x1024 .f32)

/-- The reference's projection at a sequence, a token of it and a column. -/
theorem ref_proj (b : Fin 128) (t : Fin 8) (f : Fin 5632) :
    val_main_v14 (F := Ideal) x0 x2 x3 (ix3 b t f)
      = proj x0 (fun k => x2 (ix1 k)) x3 ⟨b * 8 + t, by omega⟩ f := by
  unfold proj
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, normed]

/-- The convolution's input at a sequence: its two rows of history, then its projections. -/
def gp (b : Fin 128) (s : Fin 10) (f : Fin 2816) : EReal :=
  if h : s.val < 2 then x1 (ix3 b ⟨s, h⟩ f) else proj x0 (fun k => x2 (ix1 k)) x3 ⟨b * 8 + (s - 2), by omega⟩ ⟨f, by omega⟩

/-- The reference's convolution input is that. -/
theorem ref_gp (b : Fin 128) (s : Fin 10) (f : Fin 2816) :
    val_main_v17 (F := Ideal) x0 x1 x2 x3 (ix3 b s f) = gp x0 x1 x2 x3 b s f := by
  unfold gp
  pointwise [val_main_v17]
  by_cases h : s.val < 2
  · simp only [dif_pos h]
  · simp only [dif_neg h]
    pointwise [val_main_v15]
    exact ref_proj x0 x2 x3 b ⟨s - 2, by omega⟩ ⟨f, by omega⟩

/-- The reference's gated activation at a sequence, a token and a column. -/
theorem ref_act (b : Fin 128) (t : Fin 8) (f : Fin 2816) :
    val_main_v42 (F := Ideal) x0 x1 x2 x3 x4 x5 (ix3 b t f)
      = act (x5 (ix1 f) + gp x0 x1 x2 x3 b ⟨t, by omega⟩ f * x4 (ix2 0 f) + gp x0 x1 x2 x3 b ⟨t + 1, by omega⟩ f * x4 (ix2 1 f)
            + gp x0 x1 x2 x3 b ⟨t + 2, by omega⟩ f * x4 (ix2 2 f))
          (proj x0 (fun k => x2 (ix1 k)) x3 ⟨b * 8 + t, by omega⟩ ⟨2816 + f, by omega⟩) := by
  pointwise [val_main_v42, val_main_call0_v5, val_main_call0_v4, val_main_call0_v3, val_main_call0_v2, val_main_call0_v1,
    val_main_call0_v0, val_main_call0_cst, val_main_call0_cst_0, val_main_v41, val_main_v40, val_main_v39, val_main_v38, val_main_v37,
    val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v16, act]
  rw [zero_sub, show (⟨1 + (t : ℕ), by omega⟩ : Fin 10) = ⟨t + 1, by omega⟩ from Fin.ext (add_comm _ _),
    show (⟨2 + (t : ℕ), by omega⟩ : Fin 10) = ⟨t + 2, by omega⟩ from Fin.ext (add_comm _ _)]
  rw [ref_gp, ref_gp, ref_gp, ref_proj]

/-- The reference's first result at a sequence, a token and a column. -/
theorem ref_y (b : Fin 128) (t : Fin 8) (j : Fin 1024) :
    val_main_v45 (F := Ideal) x0 x1 x2 x3 x4 x5 x6 (ix2 ⟨b * 8 + t, by omega⟩ j)
      = x0 (ix2 ⟨b * 8 + t, by omega⟩ j) + ∑ f : Fin 2816, val_main_v42 (F := Ideal) x0 x1 x2 x3 x4 x5 (ix3 b t f) * x6 (ix2 f j) := by
  pointwise [val_main_v45, val_main_v44, val_main_v43, val_main_v0]

/-- The reference's second result: the last two projected rows of each sequence. -/
theorem ref_conv (b : Fin 128) (s : Fin 2) (f : Fin 2816) :
    val_main_v46 (F := Ideal) x0 x1 x2 x3 (ix3 b s f) = proj x0 (fun k => x2 (ix1 k)) x3 ⟨b * 8 + (6 + s), by omega⟩ ⟨f, by omega⟩ := by
  pointwise [val_main_v46]
  rw [ref_gp, gp, dif_neg (by simp only; omega)]
  exact congrArg (fun r => proj x0 (fun k => x2 (ix1 k)) x3 r _) (Fin.ext (by simp only; omega))

end Cert.Reference4Ideal.SmpRef
-- ==== Proof.SmpArr.lean ====
module

public import proofs.«01_k».proof.Proof.SmpY
public import proofs.«01_k».proof.Proof.SmpRef

@[expose] public section

set_option maxRecDepth 16384
noncomputable section
open Idealize.ShloMosaic Idealize.ShloMosaic.TcCoe Idealize.SL.Sem
namespace Cert.Kernel4Ideal.SmpValue
open Cert.Kernel4Ideal Cert.Kernel4Ideal.Gen Cert.FfnSpec Cert.Reference4Ideal.SmpRef
variable (m : (ℓ : Loc nD τ sig) → Buf (Elt Ideal) ℓ)

/-- Every window's block index at every point. -/
theorem idx : ∀ t : Fin cfg0.N, win0_0.index t = ![t.val, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0, 0] :=
  (by decide +kernel : ∀ t : Fin grid0.N, _)

/-- The seven arguments, named. -/
abbrev aX (c : Dev nD) : FVec Ideal S1024x1024 .f32 := m ((c : Thread nD τ).loc main_arg0)
abbrev aH (c : Dev nD) : FVec Ideal S128x2x2816 .f32 := m ((c : Thread nD τ).loc main_arg1)
abbrev aW (c : Dev nD) : FVec Ideal S1024 .f32 := m ((c : Thread nD τ).loc main_arg2)
abbrev aF (c : Dev nD) : FVec Ideal S1024x5632 .f32 := m ((c : Thread nD τ).loc main_arg3)
abbrev aC (c : Dev nD) : FVec Ideal S3x2816 .f32 := m ((c : Thread nD τ).loc main_arg4)
abbrev aB (c : Dev nD) : FVec Ideal S2816 .f32 := m ((c : Thread nD τ).loc main_arg5)
abbrev aD (c : Dev nD) : FVec Ideal S2816x1024 .f32 := m ((c : Thread nD τ).loc main_arg6)

theorem blk0 (c : Dev nD) (t : Fin cfg0.N) (r : Fin 512) (k : Fin 1024) :
    (show FVec Ideal S512x1024 .f32 from iblk m c 0 t) (ix2 r k) = aX m c (ix2 ⟨t * 512 + r, by have := lt_of_lt_of_eq t.isLt (show cfg0.N = 2 from N_0); omega⟩ k) := by
  blk_point [iblk, V, idx t]
theorem blk1 (c : Dev nD) (t : Fin cfg0.N) (b : Fin 64) (s : Fin 2) (f : Fin 2816) :
    (show FVec Ideal S64x2x2816 .f32 from iblk m c 1 t) (ix3 b s f) = aH m c (ix3 ⟨t * 64 + b, by have := lt_of_lt_of_eq t.isLt (show cfg0.N = 2 from N_0); omega⟩ s f) := by
  blk_point [iblk, V, idx t]
theorem blk2 (c : Dev nD) (t : Fin cfg0.N) (k : Fin 1024) :
    (show FVec Ideal S1x1024 .f32 from iblk m c 2 t) (ix2 0 k) = aW m c (ix1 k) := by
  blk_simp [iblk, idx t]; entry_read; pointwise; blk_ext [idx t]
theorem blk3 (c : Dev nD) (t : Fin cfg0.N) (k : Fin 1024) (f : Fin 5632) :
    (show FVec Ideal S1024x5632 .bf16 from iblk m c 3 t) (ix2 k f) = aF m c (ix2 k f) := by
  blk_simp [iblk, idx t]; entry_read; pointwise; blk_ext [idx t]
theorem blk4 (c : Dev nD) (t : Fin cfg0.N) (k : Fin 3) (f : Fin 2816) :
    (show FVec Ideal S3x2816 .f32 from iblk m c 4 t) (ix2 k f) = aC m c (ix2 k f) := by
  blk_point [iblk, V, idx t]
theorem blk5 (c : Dev nD) (t : Fin cfg0.N) (f : Fin 2816) :
    (show FVec Ideal S1x2816 .f32 from iblk m c 5 t) (ix2 0 f) = aB m c (ix1 f) := by
  blk_simp [iblk, idx t]; entry_read; pointwise; blk_ext [idx t]
theorem blk6 (c : Dev nD) (t : Fin cfg0.N) (f : Fin 2816) (j : Fin 1024) :
    (show FVec Ideal S2816x1024 .bf16 from iblk m c 6 t) (ix2 f j) = aD m c (ix2 f j) := by
  blk_simp [iblk, idx t]; entry_read; pointwise; blk_ext [idx t]

theorem proj_congr {n n' : ℕ} {x : (⟨2, ![n, 1024]⟩ : Shape).Idx → EReal} {x' : (⟨2, ![n', 1024]⟩ : Shape).Idx → EReal} {w w' : Fin 1024 → EReal}
    {wf wf' : (⟨2, ![1024, 5632]⟩ : Shape).Idx → EReal} {r : Fin n} {r' : Fin n'} {f : Fin 5632}
    (hx : ∀ k, x (ix2 r k) = x' (ix2 r' k)) (hw : ∀ k, w k = w' k) (hf : ∀ k, wf (ix2 k f) = wf' (ix2 k f)) :
    proj x w wf r f = proj x' w' wf' r' f := by
  unfold proj normed; simp only [hx, hw, hf]

/-- A tile's projection is the whole input's projection at the tile's rows. -/
theorem tile_proj (c : Dev nD) (t : Fin cfg0.N) (r : Fin 512) (f : Fin 5632) (R : Fin 1024) (hR : (R : ℕ) = t * 512 + r) :
    proj (show FVec Ideal S512x1024 .f32 from iblk m c 0 t) (fun k => (show FVec Ideal S1x1024 .f32 from iblk m c 2 t) (ix2 0 k)) (show FVec Ideal S1024x5632 .bf16 from iblk m c 3 t) r f
      = proj (aX m c) (fun k => aW m c (ix1 k)) (aF m c) R f :=
  proj_congr (fun k => (blk0 m c t r k).trans (congrArg (fun R => aX m c (ix2 R k)) (Fin.ext hR.symm))) (fun k => blk2 m c t k) (fun k => blk3 m c t k f)

theorem conv_comm (a x y z : EReal) : a + x + y + z = a + z + y + x := by ac_rfl

/-- What the point writes as activation is the reference's activation at the tile's sequence and token. -/
theorem tile_act (c : Dev nD) (t : Fin cfg0.N) (b : Fin 64) (s : Fin 8) (B : Fin 128) (hB : (B : ℕ) = t * 64 + b) (f : Fin 2816) :
    tileAct (iblk m c 0 t) (iblk m c 1 t) (iblk m c 2 t) (iblk m c 3 t) (iblk m c 4 t) (iblk m c 5 t) ⟨b * 8 + s, by omega⟩ f
      = Cert.Reference4Ideal.Read.val_main_v42 (F := Ideal) (aX m c) (aH m c) (aW m c) (aF m c) (aC m c) (aB m c) (ix3 B s f) := by
  rw [ref_act]
  unfold tileAct
  have hist : ∀ (q : Fin 2) (b' : Fin 64) (q' : Fin 2), b'.val = b → q'.val = q →
      (show FVec Ideal S64x2x2816 .f32 from iblk m c 1 t) (ix3 b' q' f) = gp (aX m c) (aH m c) (aW m c) (aF m c) B ⟨q, by omega⟩ f := by
    intro q b' q' e e'
    obtain rfl : b' = b := Fin.ext e
    obtain rfl : q' = q := Fin.ext e'
    rw [gp, dif_pos q'.isLt]
    exact (blk1 m c t b' q' f).trans (congrArg (fun R => aH m c (ix3 R q' f)) (Fin.ext hB.symm))
  have hproj : ∀ (q : Fin 10) (r : Fin 512), 2 ≤ q.val → (r : ℕ) = b * 8 + (q - 2) →
      proj (show FVec Ideal S512x1024 .f32 from iblk m c 0 t) (fun k => (show FVec Ideal S1x1024 .f32 from iblk m c 2 t) (ix2 0 k)) (show FVec Ideal S1024x5632 .bf16 from iblk m c 3 t) r ⟨f, by omega⟩
        = gp (aX m c) (aH m c) (aW m c) (aF m c) B q f := by
    intro q r hq hr
    rw [gp, dif_neg (by omega)]
    exact tile_proj m c t _ _ _ (by simp only; omega)
  refine congrArg₂ act ?_ (tile_proj m c t _ _ _ (by simp only; omega))
  unfold conv
  refine Eq.trans ?_ (conv_comm _ _ _ _)
  refine Ideal.add_congr (Ideal.add_congr (Ideal.add_congr (blk5 m c t f) (Ideal.mul_congr ?_ (blk4 m c t 2 f))) (Ideal.mul_congr ?_ (blk4 m c t 1 f))) (Ideal.mul_congr ?_ (blk4 m c t 0 f))
  · exact hproj ⟨s + 2, by omega⟩ _ (by simp only; omega) (by simp only; omega)
  · split
    · rename_i h
      simp only at h
      refine (hist ⟨s + 1, by omega⟩ _ _ (by simp only; omega) (by simp only; omega))
    · rename_i h
      simp only at h
      exact hproj ⟨s + 1, by omega⟩ _ (by simp only; omega) (by simp only; omega)
  · split
    · rename_i h
      simp only at h
      exact hist ⟨s, by omega⟩ _ _ (by simp only; omega) (by simp only; omega)
    · rename_i h
      simp only at h
      exact hproj ⟨s, by omega⟩ _ (by simp only; omega) (by simp only; omega)

/-- The first result of a point, at a sequence and a token of its tile: the reference's at the tile's place. -/
theorem y_seq (c : Dev nD) (t : Fin cfg0.N) (b : Fin 64) (s : Fin 8) (j : Fin 1024) (hN : t.val < 2) :
    (outsAt0 m c t).1 (ix2 ⟨b * 8 + s, by omega⟩ j)
      = Cert.Reference4Ideal.Read.val_main_v45 (F := Ideal) (aX m c) (aH m c) (aW m c) (aF m c) (aC m c) (aB m c) (aD m c)
        (ix2 ⟨(t.val * 64 + b) * 8 + s, by omega⟩ j) := by
  refine Eq.trans ?_ (ref_y (aX m c) (aH m c) (aW m c) (aF m c) (aC m c) (aB m c) (aD m c) ⟨t.val * 64 + b, by omega⟩ s j).symm
  rw [y_at]
  exact Ideal.add_congr ((blk0 m c t _ j).trans (congrArg (fun R => aX m c (ix2 R j)) (Fin.ext (by simp only; omega))))
    (Finset.sum_congr rfl fun f _ => Ideal.mul_congr (tile_act m c t b s _ rfl f) (blk6 m c t f j))

/-- The first result of a point, at a row and a column of its tile. -/
theorem y_ref (c : Dev nD) (t : Fin cfg0.N) (r : Fin 512) (j : Fin 1024) (R : Fin 1024) (hR : (R : ℕ) = t * 512 + r) :
    (outsAt0 m c t).1 (ix2 r j)
      = Cert.Reference4Ideal.Read.val_main_v45 (F := Ideal) (aX m c) (aH m c) (aW m c) (aF m c) (aC m c) (aB m c) (aD m c) (ix2 R j) := by
  have hN : t.val < 2 := lt_of_lt_of_eq t.isLt (show cfg0.N = 2 from N_0)
  refine Eq.trans ?_ ((y_seq m c t ⟨r.val / 8, by omega⟩ ⟨r.val % 8, by omega⟩ j hN).trans ?_)
  · exact congrArg (fun r => (outsAt0 m c t).1 (ix2 r j)) (Fin.ext (by simp only; omega))
  · exact congrArg (fun R => Cert.Reference4Ideal.Read.val_main_v45 (F := Ideal) (aX m c) (aH m c) (aW m c) (aF m c) (aC m c) (aB m c) (aD m c) (ix2 R j)) (Fin.ext (by simp only; omega))

/-- The first result array after the run is the reference's. -/
theorem final_y (c : Dev nD) : (dats m 0 c).arrAt 7 (cfgs 0).N
    = Cert.Reference4Ideal.Read.val_main_v45 (F := Ideal) (aX m c) (aH m c) (aW m c) (aF m c) (aC m c) (aB m c) (aD m c) := by
  refine (dats m 0 c).arrAt_eq_of_covers 7 _ (by decide +kernel) fun t _ y => ?_
  blk_simp
  rw [after0_7]
  have hN : t.val < 2 := lt_of_lt_of_eq t.isLt (show cfg0.N = 2 from N_0)
  refine Eq.trans ?_ ((y_ref m c t (y 0) (y 1) ⟨t * 512 + y 0, by have : (y 0).val < 512 := (y 0).isLt; omega⟩ rfl).trans ?_)
  · exact congrArg (outsAt0 m c t).1 (by blk_ext [idx t])
  · blk_ext [idx t]

/-- The second result array after the run is the reference's. -/
theorem final_conv (c : Dev nD) : (dats m 0 c).arrAt 8 (cfgs 0).N
    = Cert.Reference4Ideal.Read.val_main_v46 (F := Ideal) (aX m c) (aH m c) (aW m c) (aF m c) := by
  refine (dats m 0 c).arrAt_eq_of_covers 8 _ (by decide +kernel) fun t _ y => ?_
  blk_simp
  rw [after0_8]
  have hN : t.val < 2 := lt_of_lt_of_eq t.isLt (show cfg0.N = 2 from N_0)
  have l0 : (y 0).val < 64 := (y 0).isLt
  have l1 : (y 1).val < 2 := (y 1).isLt
  refine Eq.trans ?_ ((conv_at m c t (y 0) (y 1) (y 2)).trans ((tile_proj m c t _ _ ⟨(t.val * 64 + y 0) * 8 + (6 + y 1), by omega⟩ (by simp only; omega)).trans
    ((ref_conv (aX m c) (aH m c) (aW m c) (aF m c) ⟨t.val * 64 + y 0, by omega⟩ (y 1) (y 2)).symm.trans ?_)))
  · exact congrArg (outsAt0 m c t).2 (by blk_ext [idx t])
  · blk_ext [idx t]

end Cert.Kernel4Ideal.SmpValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnArr
public import proofs.«01_k».proof.Proof.InArr
public import proofs.«01_k».proof.Proof.SmpArr
public import Idealize.ShloMosaic.Lib.Claim
public import Idealize.ShloMosaic.Adequacy
public import Idealize.ShloMosaic.Init

@[expose] public section

noncomputable section

namespace Cert.Proof

open Idealize.ShloMosaic Idealize.SL.Sem

/-- The feed-forward reference runs to completion and leaves its arguments unchanged. -/
theorem frame_Reference2Ideal : Cert.quiescent_Reference2Ideal := by
  intro m g _
  hlo_run
  all_goals first
    | exact fun _ => ⟨trivial, trivial, trivial, trivial, trivial, trivial⟩
    | exact Idealize.ShloMosaic.sem_eq_zero_of_no_sems (sig := Cert.Reference2Ideal.sig) (by decide) _

/-- On agreeing arguments the feed-forward kernel and its reference return the same two arrays. -/
theorem algebraic2 : Cert.algebraic_Kernel2Ideal_Reference2Ideal := by
  pair_intro
  · run_from Cert.Kernel2Ideal.Gen.run_main m g
  · run_from Cert.Reference2Ideal.Value.run m' g'
    · obtain ⟨e0, e1, e2, e3, e4, e5⟩ := hagree c
      refine (Cert.Reference2Ideal.Read.val_main_v46_eq m' c).trans (Eq.trans ?_ (Cert.Kernel2Ideal.FfnValue.final_y m c).symm)
      rw [e0, e1, e2, e3, e4, e5]
    · exact (Cert.Reference2Ideal.Read.val_main_v47_eq _ _ _).trans (Cert.Kernel2Ideal.FfnValue.final_conv m c).symm

/-- The input projection's reference runs to completion and leaves its arguments unchanged. -/
theorem frame_Reference3Ideal : Cert.quiescent_Reference3Ideal := by
  intro m g _
  hlo_run
  all_goals first
    | exact fun _ => ⟨trivial, trivial, trivial, trivial, trivial, trivial⟩
    | exact Idealize.ShloMosaic.sem_eq_zero_of_no_sems (sig := Cert.Reference3Ideal.sig) (by decide) _

set_option maxHeartbeats 4000000 in
/-- On agreeing arguments the input projection and its reference return the same eight arrays. -/
theorem algebraic3 : Cert.algebraic_Kernel3Ideal_Reference3Ideal := by
  pair_intro
  · run_from Cert.Kernel3Ideal.Gen.run_main m g
    all_goals rfl
  · run_from Cert.Reference3Ideal.Value.run m' g'
    · exact (Cert.Reference3Ideal.Read.val_main_v67_eq _ _ _ _).trans (Cert.Kernel3Ideal.InValue.final_qa m c).symm
    · exact (Cert.Reference3Ideal.Read.val_main_v68_eq _ _ _ _).trans (Cert.Kernel3Ideal.InValue.final_ks m c).symm
    · obtain ⟨e0, e1, e2, e3, e4, e5⟩ := hagree c
      refine (Cert.Reference3Ideal.Read.val_main_v71_eq m' c).trans (Eq.trans ?_ (Cert.Kernel3Ideal.InValue.final_kv m c).symm)
      rw [e0, e1, e2, e5]
    · exact (Cert.Reference3Ideal.Read.val_main_v76_eq _ _ _).trans (Cert.Kernel3Ideal.InValue.final_qm m c).symm
    · exact (Cert.Reference3Ideal.Read.val_main_v79_eq _ _ _).trans (Cert.Kernel3Ideal.InValue.final_km m c).symm
    · exact (Cert.Reference3Ideal.Read.val_main_v82_eq _ _ _).trans (Cert.Kernel3Ideal.InValue.final_vm m c).symm
    · exact (Cert.Reference3Ideal.Read.val_main_v85_eq _ _ _).trans (Cert.Kernel3Ideal.InValue.final_om m c).symm
    · exact (Cert.Reference3Ideal.Read.val_main_v89_eq _ _ _ _).trans (Cert.Kernel3Ideal.InValue.final_gt m c).symm
    all_goals rfl

/-- The sample half's feed-forward reference runs to completion and leaves its arguments unchanged. -/
theorem frame_Reference4Ideal : Cert.quiescent_Reference4Ideal := by
  intro m g _
  hlo_run
  all_goals first
    | exact fun _ => ⟨trivial, trivial, trivial, trivial, trivial, trivial, trivial⟩
    | exact Idealize.ShloMosaic.sem_eq_zero_of_no_sems (sig := Cert.Reference4Ideal.sig) (by decide) _

/-- On agreeing arguments the sample half's feed-forward kernel and its reference return the same two arrays. -/
theorem algebraic4 : Cert.algebraic_Kernel4Ideal_Reference4Ideal := by
  pair_intro
  · run_from Cert.Kernel4Ideal.Gen.run_main m g
  · run_from Cert.Reference4Ideal.Value.run m' g'
    · obtain ⟨e0, e1, e2, e3, e4, e5, e6⟩ := hagree c
      refine (Cert.Reference4Ideal.Read.val_main_v45_eq m' c).trans (Eq.trans ?_ (Cert.Kernel4Ideal.SmpValue.final_y m c).symm)
      rw [e0, e1, e2, e3, e4, e5, e6]
    · exact (Cert.Reference4Ideal.Read.val_main_v46_eq _ _ _ _).trans (Cert.Kernel4Ideal.SmpValue.final_conv m c).symm

/-- The mixer's two named constants round to the literals they name. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "ln_2" .f32 0x3F317218#32 ((Real.log 2 : ℝ) : EReal) rfl⟩

/-- The mixer's reference runs to completion and leaves its arguments unchanged. -/
theorem frame_ReferenceIdeal : Cert.quiescent_ReferenceIdeal := by
  intro m g _
  hlo_run
  all_goals first
    | exact fun _ => ⟨trivial, trivial, trivial, trivial, trivial, trivial, trivial, trivial, trivial, trivial, trivial, trivial⟩
    | exact Idealize.ShloMosaic.sem_eq_zero_of_no_sems (sig := Cert.ReferenceIdeal.sig) (by decide) _

/-- All claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  fun m ρ _ => Cert.Kernel.Gen.frame m ρ, fun m ρ _ => Cert.KernelIdeal.Gen.frame m ρ, frame_ReferenceIdeal,
  fun m ρ _ => Cert.Kernel2.Gen.frame m ρ, fun m ρ _ => Cert.Kernel2Ideal.Gen.frame m ρ, frame_Reference2Ideal,
  fun m ρ _ => Cert.Kernel3.Gen.frame m ρ, fun m ρ _ => Cert.Kernel3Ideal.Gen.frame m ρ, frame_Reference3Ideal,
  fun m ρ _ => Cert.Kernel4.Gen.frame m ρ, fun m ρ _ => Cert.Kernel4Ideal.Gen.frame m ρ, frame_Reference4Ideal,
  preserves, trivial, algebraic2, trivial, algebraic3, trivial, algebraic4⟩

end Cert.Proof

end
